-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x256 : Shape := ⟨2, ![4096, 256]⟩
abbrev S7x4096x256 : Shape := ⟨3, ![7, 4096, 256]⟩
abbrev S7x512x256 : Shape := ⟨3, ![7, 512, 256]⟩
abbrev S21 : Shape := ⟨1, ![21]⟩
abbrev S7 : Shape := ⟨1, ![7]⟩
abbrev S_ : Shape := ⟨0, ![]⟩
abbrev S1 : Shape := ⟨1, ![1]⟩
abbrev S1x1368x256 : Shape := ⟨3, ![1, 1368, 256]⟩
abbrev S1368x256 : Shape := ⟨2, ![1368, 256]⟩
abbrev S1x1360x256 : Shape := ⟨3, ![1, 1360, 256]⟩
abbrev S1360x256 : Shape := ⟨2, ![1360, 256]⟩
abbrev S512x256 : Shape := ⟨2, ![512, 256]⟩
abbrev S1x512x256 : Shape := ⟨3, ![1, 512, 256]⟩
abbrev S512x1368 : Shape := ⟨2, ![512, 1368]⟩
abbrev S512x1360 : Shape := ⟨2, ![512, 1360]⟩

abbrev nBuf : Space → Nat
  | .hbm => 3
  | .vmem => 6
  | .smem => 0
  | _ => 0

abbrev bufTy : (tb : Table) → Fin (tcTables nBuf tb) → BufTy
  | .hbm, ⟨0, _⟩ => ⟨S512x4096, .f32⟩
  | .hbm, ⟨1, _⟩ => ⟨S4096x256, .f32⟩
  | .hbm, ⟨2, _⟩ => ⟨S4096x256, .f32⟩
  | .local _ .vmem, ⟨0, _⟩ => ⟨S512x4096, .f32⟩
  | .local _ .vmem, ⟨1, _⟩ => ⟨S4096x256, .f32⟩
  | .local _ .vmem, ⟨2, _⟩ => ⟨S4096x256, .f32⟩
  | .local _ .vmem, ⟨3, _⟩ => ⟨S7x4096x256, .f32⟩
  | .local _ .vmem, ⟨4, _⟩ => ⟨S7x512x256, .f32⟩
  | .local _ .vmem, ⟨5, _⟩ => ⟨S7x512x256, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 1 59 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v13 : BitVec 32 := Scalar.xori v2 c1_i32_10
  let c1_i32_37 : BitVec 32 := 1#32
  let v41 : BitVec 32 := Scalar.muli v13 c1_i32_37
  let v42 : BitVec 32 := Scalar.addi c0_i32_38 v41
  v42.toNat
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_11 : BitVec 32 := 3#32
  let v14 : BitVec 32 := Scalar.xori v2 c3_i32_11
  let c1_i32_46 : BitVec 32 := 1#32
  let v50 : BitVec 32 := Scalar.muli v14 c1_i32_46
  let v51 : BitVec 32 := Scalar.addi c0_i32_47 v50
  v51.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_12 : BitVec 32 := 4#32
  let v15 : BitVec 32 := Scalar.xori v2 c4_i32_12
  let c1_i32_54 : BitVec 32 := 1#32
  let v59 : BitVec 32 := Scalar.muli v15 c1_i32_54
  let v60 : BitVec 32 := Scalar.addi c0_i32_55 v59
  v60.toNat
def k0_dev7 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_13 : BitVec 32 := 3#32
  let v16 : BitVec 32 := Scalar.xori v2 c3_i32_13
  let c1_i32_62 : BitVec 32 := 1#32
  let v68 : BitVec 32 := Scalar.muli v16 c1_i32_62
  let v69 : BitVec 32 := Scalar.addi c0_i32_63 v68
  v69.toNat
def k0_dev8 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_15 : BitVec 32 := 4#32
  let v18 : BitVec 32 := Scalar.xori v2 c4_i32_15
  let c1_i32_71 : BitVec 32 := 1#32
  let v77 : BitVec 32 := Scalar.muli v18 c1_i32_71
  let v78 : BitVec 32 := Scalar.addi c0_i32_72 v77
  v78.toNat
def k0_dev9 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_17 : BitVec 32 := 1#32
  let v20 : BitVec 32 := Scalar.xori v2 c1_i32_17
  let c1_i32_80 : BitVec 32 := 1#32
  let v86 : BitVec 32 := Scalar.muli v20 c1_i32_80
  let v87 : BitVec 32 := Scalar.addi c0_i32_81 v86
  v87.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_19 : BitVec 32 := 4#32
  let v22 : BitVec 32 := Scalar.xori v2 c4_i32_19
  let c1_i32_88 : BitVec 32 := 1#32
  let v95 : BitVec 32 := Scalar.muli v22 c1_i32_88
  let v96 : BitVec 32 := Scalar.addi c0_i32_89 v95
  v96.toNat
def k0_dev11 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_23 : BitVec 32 := 1#32
  let v26 : BitVec 32 := Scalar.xori v2 c1_i32_23
  let c1_i32_96 : BitVec 32 := 1#32
  let v104 : BitVec 32 := Scalar.muli v26 c1_i32_96
  let v105 : BitVec 32 := Scalar.addi c0_i32_97 v104
  v105.toNat
def k0_dev12 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_27 : BitVec 32 := 3#32
  let v30 : BitVec 32 := Scalar.xori v2 c3_i32_27
  let c1_i32_104 : BitVec 32 := 1#32
  let v113 : BitVec 32 := Scalar.muli v30 c1_i32_104
  let v114 : BitVec 32 := Scalar.addi c0_i32_105 v113
  v114.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v131 : BitVec 32 := Scalar.muli v2 c512_i32
  let v132 : Index := Scalar.indexCast v131
  let c0_117 : Index := 0#32
  ![v132.toNat, 0]
def k0_dev13 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_14 : BitVec 32 := 3#32
  let v17 : BitVec 32 := Scalar.xori v2 c3_i32_14
  let c1_i32_131 : BitVec 32 := 1#32
  let v141 : BitVec 32 := Scalar.muli v17 c1_i32_131
  let v142 : BitVec 32 := Scalar.addi c0_i32_132 v141
  v142.toNat
def k0_dev14 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_20 : BitVec 32 := 4#32
  let v23 : BitVec 32 := Scalar.xori v2 c4_i32_20
  let c1_i32_140 : BitVec 32 := 1#32
  let v151 : BitVec 32 := Scalar.muli v23 c1_i32_140
  let v152 : BitVec 32 := Scalar.addi c0_i32_141 v151
  v152.toNat
def k0_dev15 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_16 : BitVec 32 := 4#32
  let v19 : BitVec 32 := Scalar.xori v2 c4_i32_16
  let c1_i32_159 : BitVec 32 := 1#32
  let v168 : BitVec 32 := Scalar.muli v19 c1_i32_159
  let v169 : BitVec 32 := Scalar.addi c0_i32_160 v168
  v169.toNat
def k0_dev16 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_24 : BitVec 32 := 1#32
  let v27 : BitVec 32 := Scalar.xori v2 c1_i32_24
  let c1_i32_168 : BitVec 32 := 1#32
  let v178 : BitVec 32 := Scalar.muli v27 c1_i32_168
  let v179 : BitVec 32 := Scalar.addi c0_i32_169 v178
  v179.toNat
def k0_dev17 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_18 : BitVec 32 := 1#32
  let v21 : BitVec 32 := Scalar.xori v2 c1_i32_18
  let c1_i32_187 : BitVec 32 := 1#32
  let v195 : BitVec 32 := Scalar.muli v21 c1_i32_187
  let v196 : BitVec 32 := Scalar.addi c0_i32_188 v195
  v196.toNat
def k0_dev18 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_28 : BitVec 32 := 3#32
  let v31 : BitVec 32 := Scalar.xori v2 c3_i32_28
  let c1_i32_196 : BitVec 32 := 1#32
  let v205 : BitVec 32 := Scalar.muli v31 c1_i32_196
  let v206 : BitVec 32 := Scalar.addi c0_i32_197 v205
  v206.toNat
def k0_dev19 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_21 : BitVec 32 := 4#32
  let v24 : BitVec 32 := Scalar.xori v2 c4_i32_21
  let c1_i32_256 : BitVec 32 := 1#32
  let v263 : BitVec 32 := Scalar.muli v24 c1_i32_256
  let v264 : BitVec 32 := Scalar.addi c0_i32_257 v263
  v264.toNat
def k0_dev20 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_22 : BitVec 32 := 4#32
  let v25 : BitVec 32 := Scalar.xori v2 c4_i32_22
  let c1_i32_265 : BitVec 32 := 1#32
  let v273 : BitVec 32 := Scalar.muli v25 c1_i32_265
  let v274 : BitVec 32 := Scalar.addi c0_i32_266 v273
  v274.toNat
def k0_dev21 (d0 : Dev nD) : Nat :=
  let c0_i32_294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_25 : BitVec 32 := 1#32
  let v28 : BitVec 32 := Scalar.xori v2 c1_i32_25
  let c1_i32_293 : BitVec 32 := 1#32
  let v298 : BitVec 32 := Scalar.muli v28 c1_i32_293
  let v299 : BitVec 32 := Scalar.addi c0_i32_294 v298
  v299.toNat
def k0_dev22 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_26 : BitVec 32 := 1#32
  let v29 : BitVec 32 := Scalar.xori v2 c1_i32_26
  let c1_i32_302 : BitVec 32 := 1#32
  let v308 : BitVec 32 := Scalar.muli v29 c1_i32_302
  let v309 : BitVec 32 := Scalar.addi c0_i32_303 v308
  v309.toNat
def k0_dev23 (d0 : Dev nD) : Nat :=
  let c0_i32_331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_29 : BitVec 32 := 3#32
  let v32 : BitVec 32 := Scalar.xori v2 c3_i32_29
  let c1_i32_330 : BitVec 32 := 1#32
  let v333 : BitVec 32 := Scalar.muli v32 c1_i32_330
  let v334 : BitVec 32 := Scalar.addi c0_i32_331 v333
  v334.toNat
def k0_dev24 (d0 : Dev nD) : Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_30 : BitVec 32 := 3#32
  let v33 : BitVec 32 := Scalar.xori v2 c3_i32_30
  let c1_i32_339 : BitVec 32 := 1#32
  let v343 : BitVec 32 := Scalar.muli v33 c1_i32_339
  let v344 : BitVec 32 := Scalar.addi c0_i32_340 v343
  v344.toNat
def k0_dev25 (d0 : Dev nD) : Nat :=
  let c0_i32_440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_33 : BitVec 32 := 4#32
  let v37 : BitVec 32 := Scalar.xori v2 c4_i32_33
  let c1_i32_439 : BitVec 32 := 1#32
  let v437 : BitVec 32 := Scalar.muli v37 c1_i32_439
  let v438 : BitVec 32 := Scalar.addi c0_i32_440 v437
  v438.toNat
def k0_dev26 (d0 : Dev nD) : Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v34 : BitVec 32 := Scalar.xori v2 c1_i32_31
  let c1_i32_470 : BitVec 32 := 1#32
  let v465 : BitVec 32 := Scalar.muli v34 c1_i32_470
  let v466 : BitVec 32 := Scalar.addi c0_i32_471 v465
  v466.toNat
def k0_dev27 (d0 : Dev nD) : Nat :=
  let c0_i32_502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_32 : BitVec 32 := 3#32
  let v36 : BitVec 32 := Scalar.xori v2 c3_i32_32
  let c1_i32_501 : BitVec 32 := 1#32
  let v493 : BitVec 32 := Scalar.muli v36 c1_i32_501
  let v494 : BitVec 32 := Scalar.addi c0_i32_502 v493
  v494.toNat
def k0_dev28 (d0 : Dev nD) : Nat :=
  let c0_i32_600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v40 : BitVec 32 := Scalar.xori v2 c7_i32
  let c1_i32_599 : BitVec 32 := 1#32
  let v579 : BitVec 32 := Scalar.muli v40 c1_i32_599
  let v580 : BitVec 32 := Scalar.addi c0_i32_600 v579
  v580.toNat
def k0_dev29 (d0 : Dev nD) : Nat :=
  let c0_i32_632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v38 : BitVec 32 := Scalar.xori v2 c5_i32
  let c1_i32_631 : BitVec 32 := 1#32
  let v608 : BitVec 32 := Scalar.muli v38 c1_i32_631
  let v609 : BitVec 32 := Scalar.addi c0_i32_632 v608
  v609.toNat
def k0_dev30 (d0 : Dev nD) : Nat :=
  let c0_i32_664 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v35 : BitVec 32 := Scalar.xori v2 c2_i32
  let c1_i32_663 : BitVec 32 := 1#32
  let v637 : BitVec 32 := Scalar.muli v35 c1_i32_663
  let v638 : BitVec 32 := Scalar.addi c0_i32_664 v637
  v638.toNat
def k0_dev31 (d0 : Dev nD) : Nat :=
  let c0_i32_739 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v39 : BitVec 32 := Scalar.xori v2 c6_i32
  let c1_i32_738 : BitVec 32 := 1#32
  let v704 : BitVec 32 := Scalar.muli v39 c1_i32_738
  let v705 : BitVec 32 := Scalar.addi c0_i32_739 v704
  v705.toNat
def k0_off2 (d0 : Dev nD) (c4_i32_754 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v722 : BitVec 32 := Scalar.xori v2 c4_i32_754
  let c512_i32_758 : BitVec 32 := 512#32
  let v725 : BitVec 32 := Scalar.muli v722 c512_i32_758
  let v726 : Index := Scalar.indexCast v725
  let c0_759 : Index := 0#32
  ![v726.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KiProto.lean ====
/-
The protocol of the hypercube exchange, written before the run.

Device `c` holds `x` (512 × 4096) and `w` (4096 × 256). Every other device's `w` reaches it in three row pieces, each
piece along a tree of exclusive-or steps with the masks 1, 3 and 4; the landing buffer's slot `j - 1` holds the `w` of
device `c ^ j`. Copies 0..20 carry the pieces, copies 21..27 the seven finished products.

* barrier cell: three units, one from each of `c ^ 1`, `c ^ 3`, `c ^ 4` (duties 0, 1, 2). Each hands `c` the pieces of the
  signaller's landing buffer that `c`'s copies with that mask fill, and slots of signallers' product buffers.
* send cell of copy `i`: one landing, by `c` itself: its source back.
* receive cell of copy `i`: one landing, from `c ^ mask i`: the piece at the sender's contents — or the finished product —,
  and, for copies 1, 2 and 6, product slots of devices that are no neighbours, passed on.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.BigSepL
public import Idealize.ShloMosaic.Lib.Pipeline.TalkSched
public import Idealize.ShloMosaic.Lib.Ring
public import Idealize.ShloMosaic.Lib.Transfers
public import Idealize.ShloMosaic.Lib.ValueLayout
public import Idealize.ShloMosaic.Lib.ViewIndex
public import Idealize.ShloMosaic.Lib.Tactic

@[expose] public section

noncomputable section

namespace Cert.KernelIdeal.Xor

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Transfers (shareTokN shareDrop)
open Idealize.ShloMosaic.Pipeline (Dat Cfg Window BodyObligation cellOf)

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch. -/
def s₀ : MemSt nD τ sig (Elt F) := ⟨m, fun _ => 0, ρ⟩

/-! ## The tables -/

/-- The device `k` exclusive-or steps away. -/
def xr (k : Fin 8) (c : Dev nD) : Dev nD := ⟨c.val ^^^ k.val, Nat.xor_lt_two_pow (n := 3) c.isLt k.isLt⟩

theorem xr_xr : ∀ (k : Fin 8) (c : Dev nD), xr k (xr k c) = c := by decide

def mask : Fin 28 → Fin 8 := ![1, 3, 4, 3, 3, 4, 4, 1, 1, 4, 4, 4, 4, 1, 1, 1, 1, 3, 3, 3, 3, 1, 2, 3, 4, 5, 6, 7]
/-- Which row piece a copy moves. -/
def pc : Fin 28 → Fin 3 := ![0, 1, 2, 0, 0, 1, 1, 2, 2, 0, 0, 0, 0, 1, 1, 1, 1, 2, 2, 2, 2, 0, 0, 0, 0, 0, 0, 0]
/-- The slot a copy lands in. -/
def dj : Fin 28 → Fin 7 := ![0, 2, 3, 2, 1, 3, 6, 0, 4, 3, 4, 6, 5, 0, 1, 4, 5, 2, 6, 1, 5, 0, 1, 2, 3, 4, 5, 6]
/-- The slot a forwarded piece is read from. -/
def sj : Fin 28 → Fin 7 := ![0, 0, 0, 0, 0, 0, 2, 0, 3, 0, 0, 2, 1, 0, 2, 3, 6, 0, 3, 0, 4, 0, 0, 0, 0, 0, 0, 0]
/-- 0: from `w`; 1: forwarded; 2: a finished product. -/
def kd : Fin 28 → Fin 3 := ![0, 0, 0, 0, 1, 0, 1, 0, 1, 0, 1, 1, 1, 0, 1, 1, 1, 0, 1, 1, 1, 2, 2, 2, 2, 2, 2, 2]
/-- Which read share of the source a copy takes. -/
def qt : Fin 28 → ℕ := ![0, 0, 0, 1, 0, 1, 0, 1, 0, 2, 1, 0, 0, 2, 1, 0, 0, 2, 1, 0, 0, 0, 0, 0, 0, 0, 0, 0]
/-- The place of a copy in program order. -/
def pos : Fin 28 → ℕ := ![0, 1, 2, 3, 9, 4, 11, 5, 13, 6, 10, 15, 16, 7, 12, 17, 18, 8, 14, 19, 20, 22, 26, 23, 21, 25, 27, 24]
/-- The copies in program order. -/
def order : List (Fin 28) := [0, 1, 2, 3, 5, 7, 9, 13, 17, 4, 10, 6, 14, 8, 18, 11, 12, 15, 16, 19, 20, 24, 21, 23, 27, 25, 22, 26]
/-- The receive waits in program order. -/
def rorder : List (Fin 28) := [0, 1, 2, 3, 4, 5, 6, 7, 8, 9, 13, 17, 10, 14, 18, 11, 15, 19, 12, 16, 20, 24, 21, 23, 27, 25, 22, 26]
/-- The send waits in program order. -/
def sorder : List (Fin 28) := [0, 3, 4, 9, 10, 11, 12, 1, 5, 6, 13, 14, 15, 16, 2, 7, 8, 17, 18, 19, 20, 21, 22, 23, 24, 25, 26, 27]

/-- A piece's first row and its number of rows. -/
def off : Fin 3 → ℕ := ![0, 1368, 2736]
def len : Fin 3 → ℕ := ![1368, 1368, 1360]

/-! ## The memrefs and cells -/

abbrev xM : Memref sig .tc .vmem S512x4096 .f32 := Memref.whole cc0_stg0_0
abbrev wM : Memref sig .tc .vmem S4096x256 .f32 := Memref.whole cc0_stg1_0
abbrev oM : Memref sig .tc .vmem S4096x256 .f32 := Memref.whole cc0_stg2_0
abbrev gM : Memref sig .tc .vmem S7x4096x256 .f32 := Memref.whole cc0_scratch0
abbrev sM : Memref sig .tc .vmem S7x512x256 .f32 := Memref.whole cc0_scratch1
abbrev rM : Memref sig .tc .vmem S7x512x256 .f32 := Memref.whole cc0_scratch2

abbrev barS : Sem sig := (SemArray.scalar (sig.barrier 0 rfl) : Sems sig S_).sem
def ssem (i : Fin 28) : DmaSem sig := if h : i.val < 21 then ⟨3 + i.val, by show _ < 59; omega⟩ else ⟨24 + i.val, by show _ < 59; omega⟩
def rsem (i : Fin 28) : DmaSem sig := if h : i.val < 21 then ⟨24 + i.val, by show _ < 59; omega⟩ else ⟨31 + i.val, by show _ < 59; omega⟩

abbrev barCell (c : Dev nD) : GSem nD τ sig := ((c : Thread nD τ), .reg barS)
abbrev sendCell (c : Dev nD) (i : Fin 28) : GSem nD τ sig := ((c : Thread nD τ), .dma (ssem i))
abbrev recvCell (c : Dev nD) (i : Fin 28) : GSem nD τ sig := ((c : Thread nD τ), .dma (rsem i))

/-- Which copy a DMA semaphore is the send (the receive) semaphore of. -/
def decS (q : DmaSem sig) : Option (Fin 28) :=
  if h : 3 ≤ q.val ∧ q.val < 24 then some ⟨q.val - 3, by omega⟩ else if h : 45 ≤ q.val ∧ q.val < 52 then some ⟨q.val - 24, by omega⟩ else none
def decR (q : DmaSem sig) : Option (Fin 28) :=
  if h : 24 ≤ q.val ∧ q.val < 45 then some ⟨q.val - 24, by omega⟩ else if h : 52 ≤ q.val ∧ q.val < 59 then some ⟨q.val - 31, by omega⟩ else none

/-! ## The rectangles -/

theorem inbG : ∀ (j : Fin 7) (r : Fin 3) (a : Fin 3), (![j.val, off r, 0] : Fin 3 → ℕ) a + (![1, len r, 256] : Fin 3 → ℕ) a ≤ S7x4096x256.size a := by decide
theorem inbW : ∀ (r : Fin 3) (a : Fin 2), (![off r, 0] : Fin 2 → ℕ) a + (![len r, 256] : Fin 2 → ℕ) a ≤ S4096x256.size a := by decide
theorem inbX : ∀ (r : Fin 3) (a : Fin 2), (![0, off r] : Fin 2 → ℕ) a + (![512, len r] : Fin 2 → ℕ) a ≤ S512x4096.size a := by decide
theorem inbS : ∀ (j : Fin 7) (a : Fin 3), (![j.val, 0, 0] : Fin 3 → ℕ) a + (![1, 512, 256] : Fin 3 → ℕ) a ≤ S7x512x256.size a := by decide

abbrev rectG (j : Fin 7) (r : Fin 3) : Rect S7x4096x256 := Rect.unit (s := S7x4096x256) ![j.val, off r, 0] ![1, len r, 256] (inbG j r)
abbrev rectW (r : Fin 3) : Rect S4096x256 := Rect.unit (s := S4096x256) ![off r, 0] ![len r, 256] (inbW r)
abbrev rectX (r : Fin 3) : Rect S512x4096 := Rect.unit (s := S512x4096) ![0, off r] ![512, len r] (inbX r)
abbrev rectS (j : Fin 7) : Rect S7x512x256 := Rect.unit (s := S7x512x256) ![j.val, 0, 0] ![1, 512, 256] (inbS j)

theorem sqG : ∀ r : Fin 3, (⟨3, ![1, len r, 256]⟩ : Shape).Squeezes ⟨2, ![len r, 256]⟩ := by decide
theorem sqS : (⟨3, ![1, 512, 256]⟩ : Shape).Squeezes ⟨2, ![512, 256]⟩ := by decide

/-- A piece of the landing buffer as the copies name it. -/
abbrev gSq (j : Fin 7) (r : Fin 3) : Memref sig .tc .vmem ⟨2, ![len r, 256]⟩ .f32 := (gM.slice (rectG j r) (fun _ => rfl)).squeeze ⟨2, ![len r, 256]⟩ (sqG r)
/-- A piece of `w` as the copies name it. -/
abbrev wSl (r : Fin 3) : Memref sig .tc .vmem ⟨2, ![len r, 256]⟩ .f32 := wM.slice (rectW r) (fun _ => rfl)
/-- A slot of a product buffer as the copies name it. -/
abbrev pSq (M : Memref sig .tc .vmem S7x512x256 .f32) (j : Fin 7) : Memref sig .tc .vmem ⟨2, ![512, 256]⟩ .f32 := (M.slice (rectS j) (fun _ => rfl)).squeeze ⟨2, ![512, 256]⟩ sqS

/-- The credit of a copy. -/
def N (i : Fin 28) : ℕ := if kd i = 2 then (pSq rM (dj i)).view.dmaCredit else (gSq (dj i) (pc i)).view.dmaCredit

theorem numel_pos2 : ∀ r : Fin 3, 0 < (⟨2, ![len r, 256]⟩ : Shape).numel := by decide
theorem N_pos (i : Fin 28) : 0 < N i := by
  unfold N; split
  · exact View.dmaCredit_pos _ (by decide)
  · exact View.dmaCredit_pos _ (numel_pos2 _)

/-! ## Contents -/

def xs (c : Dev nD) : (cc0_stg0_0 : Ref sig .tc).ty.Contents (Elt F) :=
  (win0_0.blk (0 : Fin 1)).view.read (Elt F) ((s₀ m ρ).mem ((c : Thread nD τ).loc main_arg0))
def ws (c : Dev nD) : (cc0_stg1_0 : Ref sig .tc).ty.Contents (Elt F) :=
  (win0_1.blk (0 : Fin 1)).view.read (Elt F) ((s₀ m ρ).mem ((c : Thread nD τ).loc main_arg1))

/-- What every written element of the landing buffer holds: slot `j`, the `w` of device `c ^ (j + 1)`. -/
def WG (c : Dev nD) : (cc0_scratch0 : Ref sig .tc).ty.Contents (Elt F) :=
  fun x : S7x4096x256.Idx => ws m ρ (xr (x (0 : Fin 3)).succ c) (ix2 (n0 := 4096) (n1 := 256) (x (1 : Fin 3)) (x (2 : Fin 3)))

/-- The operands of an accumulation. -/
abbrev xP (c : Dev nD) (r : Fin 3) : Vec F ⟨2, ![512, len r]⟩ .f32 := xM.view.readAt (Elt F) (rectX r).toLoadRect (xs m ρ c)
abbrev gP (c : Dev nD) (j : Fin 7) (r : Fin 3) : Vec F ⟨3, ![1, len r, 256]⟩ .f32 := gM.view.readAt (Elt F) (rectG j r).toLoadRect (WG m ρ c)

/-- An accumulation: the slot's contents plus the product of the pieces. -/
def acc (c : Dev nD) (j : Fin 7) (r : Fin 3) (a : Vec F S1x512x256 .f32) : FVec F S1x512x256 .f32 :=
  match r with
  | 0 => k0_pay5 a (xP m ρ c 0) (gP m ρ c j 0)
  | 1 => k0_pay5 a (xP m ρ c 1) (gP m ρ c j 1)
  | 2 => k0_pay6 a (xP m ρ c 2) (gP m ρ c j 2)

/-- A slot after the zero store. -/
def Z (j : Fin 7) : Vec F S1x512x256 .f32 := sM.view.readAt (Elt F) (rectS j).toLoadRect (k0_pay1 (F := F))

/-- Device `c`'s finished product for device `c ^ (j + 1)`, the pieces in the order the kernel adds them. -/
def Xd (c : Dev nD) (j : Fin 7) : Vec F S1x512x256 .f32 :=
  match j with
  | 0 => acc m ρ c 0 1 (acc m ρ c 0 2 (acc m ρ c 0 0 (Z 0)))
  | 1 => acc m ρ c 1 2 (acc m ρ c 1 1 (acc m ρ c 1 0 (Z 1)))
  | 2 => acc m ρ c 2 2 (acc m ρ c 2 0 (acc m ρ c 2 1 (Z 2)))
  | 3 => acc m ρ c 3 0 (acc m ρ c 3 1 (acc m ρ c 3 2 (Z 3)))
  | 4 => acc m ρ c 4 1 (acc m ρ c 4 0 (acc m ρ c 4 2 (Z 4)))
  | 5 => acc m ρ c 5 2 (acc m ρ c 5 1 (acc m ρ c 5 0 (Z 5)))
  | 6 => acc m ρ c 6 0 (acc m ρ c 6 2 (acc m ρ c 6 1 (Z 6)))

/-! ## Ownership -/

/-- A piece of the landing buffer at its contents. -/
def gPts (c : Dev nD) (j : Fin 7) (r : Fin 3) (q : PosShare TreeShare) : sProp 𝕄 :=
  (gM.access (rectG j r)).loc (c : Thread nD τ) ↦[(gM.access (rectG j r)).set]{q} WG m ρ c
/-- The same, at any contents. -/
def gFree (c : Dev nD) (j : Fin 7) (r : Fin 3) : sProp 𝕄 :=
  iprop(∃ f : Buf (Elt F) ((gM.access (rectG j r)).loc (c : Thread nD τ)), (gM.access (rectG j r)).loc (c : Thread nD τ) ↦[(gM.access (rectG j r)).set]{fullShare} f)
/-- A piece of `w`. -/
def wPts (c : Dev nD) (r : Fin 3) (q : PosShare TreeShare) : sProp 𝕄 :=
  (wM.access (rectW r)).loc (c : Thread nD τ) ↦[(wM.access (rectW r)).set]{q} ws m ρ c
/-- A slot of a product buffer, reading `X`. -/
def slotP (M : Memref sig .tc .vmem S7x512x256 .f32) (c : Dev nD) (j : Fin 7) (X : Vec F S1x512x256 .f32) : sProp 𝕄 :=
  iprop(∃ f : Buf (Elt F) ((M.access (rectS j)).loc (c : Thread nD τ)), ⌜(M.access (rectS j)).read (Elt F) f = X⌝
    ∗ (M.access (rectS j)).loc (c : Thread nD τ) ↦[(M.access (rectS j)).set]{fullShare} f)
def slotF (M : Memref sig .tc .vmem S7x512x256 .f32) (c : Dev nD) (j : Fin 7) : sProp 𝕄 :=
  iprop(∃ f : Buf (Elt F) ((M.access (rectS j)).loc (c : Thread nD τ)), (M.access (rectS j)).loc (c : Thread nD τ) ↦[(M.access (rectS j)).set]{fullShare} f)

omit [FloatOps F] in
instance (c j r q) : BI.Storable (upEmb : UEmb _ 𝕄) (gPts (F := F) m ρ c j r q) := by unfold gPts; infer_instance
omit [FloatOps F] in
instance (c j r) : BI.Storable (upEmb : UEmb _ 𝕄) (gFree (F := F) c j r) := by unfold gFree; infer_instance
omit [FloatOps F] in
instance (c r q) : BI.Storable (upEmb : UEmb _ 𝕄) (wPts (F := F) m ρ c r q) := by unfold wPts; infer_instance
omit [FloatOps F] in
instance (M c j X) : BI.Storable (upEmb : UEmb _ 𝕄) (slotP (F := F) M c j X) := by unfold slotP; infer_instance
omit [FloatOps F] in
instance (M c j) : BI.Storable (upEmb : UEmb _ 𝕄) (slotF (F := F) M c j) := by unfold slotF; infer_instance

/-! ## The payloads -/

/-- The copies of a mask, per barrier duty. -/
def copiesOf : Fin 3 → List (Fin 28) := fun | 0 => [0, 7, 8, 13, 14, 15, 16] | 1 => [1, 3, 4, 17, 18, 19, 20] | 2 => [2, 5, 6, 9, 10, 11, 12]
def bmask : Fin 3 → Fin 8 := ![1, 3, 4]
/-- The product slots a signaller hands over, per barrier duty. -/
def slotsOf : Fin 3 → List (Fin 7) := fun | 0 => [0, 1, 4, 5] | 1 => [2] | 2 => [3, 6]

def giveG (c : Dev nD) (d : Fin 3) : sProp 𝕄 := bigSepL (copiesOf d) fun i => gFree c (dj i) (pc i)
def giveR (c : Dev nD) (d : Fin 3) : sProp 𝕄 := bigSepL (slotsOf d) fun j => slotF rM c j

/-- What the barrier signal of duty `d` hands `c`. -/
def barPay (c : Dev nD) (d : Fin 3) : sProp 𝕄 := iprop(giveG (xr (bmask d) c) d ∗ giveR (xr (bmask d) c) d)

/-- Product slots passed on with a copy. -/
def extra (c : Dev nD) (i : Fin 28) : sProp 𝕄 :=
  if i = 1 then iprop(slotF rM (xr 2 c) 1 ∗ slotF rM (xr 7 c) 6 ∗ slotF rM (xr 2 c) 5)
  else if i = 2 then slotF rM (xr 5 c) 4
  else if i = 6 then slotF rM (xr 6 c) 5
  else iprop(emp)

def sendPay (c : Dev nD) (i : Fin 28) : sProp 𝕄 :=
  if kd i = 0 then wPts m ρ c (pc i) (shareTokN fullShare (qt i))
  else if kd i = 1 then gPts m ρ c (sj i) (pc i) (shareTokN fullShare (qt i))
  else slotF sM c (dj i)
def recvPay (c : Dev nD) (i : Fin 28) : sProp 𝕄 :=
  if kd i = 2 then slotP rM c (dj i) (Xd m ρ (xr (mask i) c) (dj i))
  else iprop(gPts m ρ c (dj i) (pc i) fullShare ∗ extra c i)

omit [FloatOps F] in
theorem storable_list {I : Type} (l : List I) (Φ : I → sProp 𝕄) (h : ∀ i, BI.Storable (upEmb : UEmb _ 𝕄) (Φ i)) :
    BI.Storable (upEmb : UEmb _ 𝕄) (bigSepL l Φ) := by
  induction l with
  | nil => exact (inferInstance : BI.Storable (upEmb : UEmb _ 𝕄) (iprop(emp) : sProp 𝕄))
  | cons i l ih => rw [bigSepL_cons']; haveI := h i; haveI := ih; infer_instance

omit [FloatOps F] in
instance (c d) : BI.Storable (upEmb : UEmb _ 𝕄) (barPay (F := F) c d) := by
  unfold barPay giveG giveR
  haveI := storable_list (F := F) (copiesOf d) (fun i => gFree (xr (bmask d) c) (dj i) (pc i)) (fun i => inferInstance)
  haveI := storable_list (F := F) (slotsOf d) (fun j => slotF rM (xr (bmask d) c) j) (fun i => inferInstance)
  infer_instance
omit [FloatOps F] in
instance (c i) : BI.Storable (upEmb : UEmb _ 𝕄) (extra (F := F) c i) := by
  unfold extra; (repeat' split) <;> infer_instance
omit [FloatOps F] in
instance (c i) : BI.Storable (upEmb : UEmb _ 𝕄) (sendPay (F := F) m ρ c i) := by
  unfold sendPay; (repeat' split) <;> infer_instance
instance (c i) : BI.Storable (upEmb : UEmb _ 𝕄) (recvPay (F := F) m ρ c i) := by
  unfold recvPay; (repeat' split) <;> infer_instance

/-! ## The schedule -/

theorem decS_ssem : ∀ i, decS (ssem i) = some i := by decide
theorem decS_rsem : ∀ i, decS (rsem i) = none := by decide
theorem decR_rsem : ∀ i, decR (rsem i) = some i := by decide

/-- One round, round 0. -/
def sched : Rounds.Schedule (GSem nD τ sig) (Fin 3) 𝕄 where
  duties g r := if r = 0 ∧ g.1.2 = .tc then
      (match g.2 with | .reg _ => Finset.univ | .dma q => if (decS q).isSome ∨ (decR q).isSome then {0} else ∅) else ∅
  unitless _ := False
  amount g _ _ := match g.2 with
    | .reg _ => 1
    | .dma q => (match decS q with | some i => N i | none => (match decR q with | some i => N i | none => 1))
  payload g _ d := match g.2 with
    | .reg _ => barPay g.1.1 d
    | .dma q => (match decS q with | some i => sendPay m ρ g.1.1 i | none => (match decR q with | some i => recvPay m ρ g.1.1 i | none => iprop(emp)))
  amount_pos g _ _ _ := by
    (repeat' split) <;> first | exact Nat.one_pos | exact N_pos _

instance sched_storable (g : GSem nD τ sig) (r : ℕ) (d : Fin 3) :
    BI.Storable (upEmb : UEmb _ 𝕄) ((sched (F := F) m ρ).payload g r d) := by
  dsimp only [sched]
  (repeat' split) <;> infer_instance

section Sched
variable (c : Dev nD) (i : Fin 28)

theorem duties_bar : (sched (F := F) m ρ).duties (barCell c) 0 = Finset.univ := by dsimp only [sched]; exact if_pos ⟨rfl, rfl⟩
theorem duties_send : (sched (F := F) m ρ).duties (sendCell c i) 0 = {0} := by
  dsimp only [sched]; rw [if_pos ⟨rfl, rfl⟩, decS_ssem]; rfl
theorem duties_recv : (sched (F := F) m ρ).duties (recvCell c i) 0 = {0} := by
  dsimp only [sched]; rw [if_pos ⟨rfl, rfl⟩, decR_rsem]; exact if_pos (Or.inr rfl)
theorem duties_later (g : GSem nD τ sig) : ∀ r, 1 ≤ r → (sched (F := F) m ρ).duties g r = ∅ :=
  fun r hr => by dsimp only [sched]; exact if_neg fun h => by omega
theorem amount_bar (d : Fin 3) : (sched (F := F) m ρ).amount (barCell c) 0 d = 1 := rfl
theorem amount_send (d : Fin 3) : (sched (F := F) m ρ).amount (sendCell c i) 0 d = N i := by dsimp only [sched]; rw [decS_ssem]
theorem amount_recv (d : Fin 3) : (sched (F := F) m ρ).amount (recvCell c i) 0 d = N i := by dsimp only [sched]; rw [decS_rsem, decR_rsem]
theorem payload_bar (d : Fin 3) : (sched (F := F) m ρ).payload (barCell c) 0 d = barPay c d := rfl
theorem payload_send (d : Fin 3) : (sched (F := F) m ρ).payload (sendCell c i) 0 d = sendPay m ρ c i := by dsimp only [sched]; rw [decS_ssem]
theorem payload_recv (d : Fin 3) : (sched (F := F) m ρ).payload (recvCell c i) 0 d = recvPay m ρ c i := by dsimp only [sched]; rw [decS_rsem, decR_rsem]

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (sched (F := F) m ρ).expect (sendCell c i) 0 = N i := by
  unfold Schedule.expect Schedule.amountOf; rw [duties_send, Finset.sum_singleton, amount_send]
theorem expect_recv : (sched (F := F) m ρ).expect (recvCell c i) 0 = N i := by
  unfold Schedule.expect Schedule.amountOf; rw [duties_recv, Finset.sum_singleton, amount_recv]

theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_univ_eq_bigSepL [0, 1, 2] (by decide) (by decide)]; rfl
theorem rest_send : bigSep ((sched (F := F) m ρ).duties (sendCell c i) 0 \ ∅) (fun d => (sched (F := F) m ρ).payload (sendCell c i) 0 d) = sendPay m ρ c i := by
  rw [Finset.sdiff_empty, duties_send, bigSep_singleton, payload_send]
theorem rest_recv : bigSep ((sched (F := F) m ρ).duties (recvCell c i) 0 \ ∅) (fun d => (sched (F := F) m ρ).payload (recvCell c i) 0 d) = recvPay m ρ c i := by
  rw [Finset.sdiff_empty, duties_recv, bigSep_singleton, payload_recv]

end Sched

/-! ## What a device owes; the levels -/

/-- What the copies still to start owe. -/
def owed (c : Dev nD) : List (Fin 28) → CellTallies nD τ sig Unit
  | [] => 0
  | i :: l => owed c l + tallyAt (recvCell (xr (mask i) c) i) () (N i)
/-- At launch: all copies, and a unit for each neighbour's barrier cell. -/
def O₁ (c : Dev nD) : CellTallies nD τ sig Unit := owed c order + tallyAt (barCell (xr 4 c)) () 1
def O₂ (c : Dev nD) : CellTallies nD τ sig Unit := O₁ c + tallyAt (barCell (xr 3 c)) () 1
def O₀ (c : Dev nD) : CellTallies nD τ sig Unit := O₂ c + tallyAt (barCell (xr 1 c)) () 1

def L (g : GSem nD τ sig) : Finset Unit := if g.1.2 = .tc then {()} else ∅
def lv (g : GSem nD τ sig) (_ : Unit) : ℕ := match g.2 with
  | .reg _ => 1
  | .dma q => (match decR q with | some i => pos i + 2 | none => 0)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (i : Fin 28) : lv (recvCell c i) () = pos i + 2 := by dsimp only [lv]; rw [decR_rsem]
theorem decR_ssem : ∀ i, decR (ssem i) = none := by decide

theorem add_pos {A : CellTallies nD τ sig Unit} {g g' : GSem nD τ sig} {u : Unit} {n : ℕ} (h : 0 < (A + tallyAt g' () n) g u) :
    0 < A g u ∨ g = g' := by
  by_cases hg : g = g'
  · exact Or.inr hg
  · rw [Pi.add_apply, Finsupp.add_apply, tallyAt_apply, if_neg (fun h' => hg h'.1), Nat.add_zero] at h
    exact Or.inl h

theorem owed_pos {c : Dev nD} {l : List (Fin 28)} {g : GSem nD τ sig} {u : Unit} (h : 0 < owed c l g u) :
    ∃ i ∈ l, g = recvCell (xr (mask i) c) i := by
  induction l with
  | nil => exact absurd h (Nat.lt_irrefl 0)
  | cons i l ih =>
    rcases add_pos h with h | h
    · obtain ⟨k, hk, e⟩ := ih h
      exact ⟨k, List.mem_cons_of_mem _ hk, e⟩
    · exact ⟨i, List.mem_cons_self, h⟩

theorem O₀_pos {c : Dev nD} {g : GSem nD τ sig} {u : Unit} (h : 0 < O₀ c g u) :
    (∃ i ∈ order, g = recvCell (xr (mask i) c) i) ∨ (∃ k, g = barCell (xr k c)) := by
  rcases add_pos h with h | h
  · rcases add_pos h with h | h
    · rcases add_pos h with h | h
      · exact Or.inl (owed_pos h)
      · exact Or.inr ⟨4, h⟩
    · exact Or.inr ⟨3, h⟩
  · exact Or.inr ⟨1, h⟩

omit [FloatOps F] in
/-- A wait on a cell below every copy still owed. -/
theorem mayWait_owed (c : Dev nD) (sm : SemLoc sig) (l : List (Fin 28)) (hl : ∀ i ∈ l, lv ((c : Thread nD τ), sm) () < pos i + 2) :
    (levAts L lv : sProp 𝕄) ⊢ MayWait (c : Thread nD τ) sm () (owed c l) :=
  MayOwe.of_cut (L := L) (lev := lv) (lv ((c : Thread nD τ), sm) ()) (fun p hp => by rw [Finset.mem_singleton.mp hp, L_tc]; exact Finset.mem_singleton_self _)
    (fun g u hg => by obtain ⟨i, hi, rfl⟩ := owed_pos hg; exact Finset.mem_singleton_self _)
    (fun p hp => by rw [Finset.mem_singleton.mp hp])
    (fun g u hg => by obtain ⟨i, hi, rfl⟩ := owed_pos hg; cases u; rw [lv_recv]; exact hl i hi)

omit [FloatOps F] in
theorem mayWait_stage (c : Dev nD) (q : DmaSem sig) (hq : decR q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, hi, rfl⟩ | ⟨k, rfl⟩ <;> exact Finset.mem_singleton_self _)
      (fun p hp => by rw [Finset.mem_singleton.mp hp]; dsimp only [lv]; rw [hq])
      (fun g u hg => by
        cases u
        rcases O₀_pos hg with ⟨i, hi, rfl⟩ | ⟨k, rfl⟩
        · rw [lv_recv]; omega
        · rw [lv_bar]; decide)
  · rw [MayWait_zero]; iintro -; iempintro

end Cert.KernelIdeal.Xor

end
-- ==== Proof.KiStep.lean ====
/-
One rule per kind of operation of the exchange: starting a copy, waiting for one, adding a product, storing a result.
-/
module

public import proofs.«01_k».proof.Proof.KiProto

@[expose] public section

noncomputable section

namespace Cert.KernelIdeal.Xor

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where the pieces lie -/

theorem off_len : ∀ r : Fin 3, off r + len r ≤ 4096 := by decide

/-- Row `a` of piece `r`. -/
abbrev rowOf (r : Fin 3) (a : Fin (len r)) : Fin 4096 := ⟨off r + a.val, by have := off_len r; have := a.isLt; omega⟩

theorem idx2x {n0 n1 : ℕ} {x y : (⟨2, ![n0, n1]⟩ : Shape).Idx} (h0 : (x (0 : Fin 2)).val = (y (0 : Fin 2)).val) (h1 : (x (1 : Fin 2)).val = (y (1 : Fin 2)).val) : x = y :=
  funext fun a => by
    fin_cases a
    · exact Fin.ext h0
    · exact Fin.ext h1

theorem idx3x {n0 n1 n2 : ℕ} {x y : (⟨3, ![n0, n1, n2]⟩ : Shape).Idx} (h0 : (x (0 : Fin 3)).val = (y (0 : Fin 3)).val) (h1 : (x (1 : Fin 3)).val = (y (1 : Fin 3)).val)
    (h2 : (x (2 : Fin 3)).val = (y (2 : Fin 3)).val) : x = y :=
  funext fun a => by
    fin_cases a
    · exact Fin.ext h0
    · exact Fin.ext h1
    · exact Fin.ext h2

theorem gSq_emb (j : Fin 7) (r : Fin 3) (a : Fin (len r)) (b : Fin 256) :
    (gSq j r).view.emb (ix2 (n0 := len r) (n1 := 256) a b) = (ix3 (n0 := 7) (n1 := 4096) (n2 := 256) j (rowOf r a) b : S7x4096x256.Idx) := by
  show (rectG j r).emb (Shape.reshapeEquiv _ (ix2 a b)) = _
  rw [reshapeEquiv_ix2_1ab]
  refine idx3x ?_ ?_ ?_
  · show j.val + 1 * 0 = j.val; omega
  · show off r + 1 * a.val = off r + a.val; omega
  · show 0 + 1 * b.val = b.val; omega

theorem wSl_emb (r : Fin 3) (a : Fin (len r)) (b : Fin 256) :
    (wSl r).view.emb (ix2 (n0 := len r) (n1 := 256) a b) = (ix2 (n0 := 4096) (n1 := 256) (rowOf r a) b : S4096x256.Idx) := by
  show (rectW r).emb (ix2 a b) = _
  refine idx2x ?_ ?_
  · show off r + 1 * a.val = off r + a.val; omega
  · show 0 + 1 * b.val = b.val; omega

theorem read_w (c : Dev nD) (r : Fin 3) (a : Fin (len r)) (b : Fin 256) :
    (wSl r).view.read (Elt F) (ws m ρ c) (ix2 a b) = ws m ρ c (ix2 (rowOf r a) b) := by
  rw [View.read_apply, wSl_emb]; rfl

theorem read_g (c : Dev nD) (j : Fin 7) (r : Fin 3) (a : Fin (len r)) (b : Fin 256) :
    (gSq j r).view.read (Elt F) (WG m ρ c) (ix2 a b) = ws m ρ (xr j.succ c) (ix2 (rowOf r a) b) := by
  rw [View.read_apply, gSq_emb]; rfl

theorem gSq_set (j : Fin 7) (r : Fin 3) : (gSq j r).view.set = (gM.access (rectG j r)).set := View.set_reshape _ _
theorem pSq_set (M : Memref sig .tc .vmem S7x512x256 .f32) (j : Fin 7) : (pSq M j).view.set = (M.access (rectS j)).set := View.set_reshape _ _

/-- A piece landing with the right rows is the piece at its contents. -/
theorem landing (c : Dev nD) (j : Fin 7) (r : Fin 3) (fd : (cc0_scratch0 : Ref sig .tc).ty.Contents (Elt F)) (w : (⟨2, ![len r, 256]⟩ : Shape).Idx → Elt F .f32)
    (h : ∀ a b, w (ix2 a b) = ws m ρ (xr j.succ c) (ix2 (rowOf r a) b)) :
    ((gSq j r).view.loc (c : Thread nD τ) ↦[(gSq j r).view.set]{fullShare} ((gSq j r).view.write (Elt F) fd w Finset.univ) : sProp 𝕄) ⊢ gPts m ρ c j r fullShare := by
  unfold gPts
  refine Entails.of_eq ?_
  rw [← gSq_set]
  refine pointsTo_congr fun i hi => ?_
  obtain ⟨y, -, rfl⟩ := Finset.mem_map.mp hi
  obtain ⟨a, b, rfl⟩ : ∃ (a : Fin (len r)) (b : Fin 256), y = ix2 a b := ⟨y (0 : Fin 2), y (1 : Fin 2), eq_ix2 y⟩
  rw [View.write_emb_of_mem _ _ (Finset.mem_univ _), h, gSq_emb]
  rfl

theorem slot_landing (M : Memref sig .tc .vmem S7x512x256 .f32) (c : Dev nD) (j : Fin 7) (X : Vec F S1x512x256 .f32)
    (fd : M.view.ty.Contents (Elt F)) (w : (⟨2, ![512, 256]⟩ : Shape).Idx → Elt F .f32)
    (h : ∀ x, w x = X (Shape.reshapeEquiv sqS.numel_eq x)) :
    ((pSq M j).view.loc (c : Thread nD τ) ↦[(pSq M j).view.set]{fullShare} ((pSq M j).view.write (Elt F) fd w Finset.univ) : sProp 𝕄) ⊢ slotP M c j X := by
  unfold slotP
  rw [pSq_set]
  iintro H
  iexists ((pSq M j).view.write (Elt F) fd w Finset.univ)
  isplitr
  · ipureintro
    funext y
    obtain ⟨x, rfl⟩ := (Shape.reshapeEquiv sqS.numel_eq).surjective y
    exact (View.read_write_of_mem (v := (pSq M j).view) fd w (Finset.mem_univ x)).trans (h x)
  · iexact H

/-! ## The cells and the state -/

/-- The cells by number: the 56 copy cells, then the barrier. -/
def kcell (p : Dev nD × Fin 57) : GSem nD τ sig :=
  ((p.1 : Thread nD τ), if h : p.2.val < 56 then .dma ⟨3 + p.2.val, by show _ < 59; omega⟩ else .reg barS)

def sIx (i : Fin 28) : Fin 57 := if h : i.val < 21 then ⟨i.val, by omega⟩ else ⟨21 + i.val, by omega⟩
def rIx (i : Fin 28) : Fin 57 := if h : i.val < 21 then ⟨21 + i.val, by omega⟩ else ⟨28 + i.val, by omega⟩

theorem sem_sIx : ∀ i : Fin 28, (if h : (sIx i).val < 56 then (.dma ⟨3 + (sIx i).val, by show _ < 59; omega⟩ : SemLoc sig) else .reg barS) = .dma (ssem i) := by decide
theorem sem_rIx : ∀ i : Fin 28, (if h : (rIx i).val < 56 then (.dma ⟨3 + (rIx i).val, by show _ < 59; omega⟩ : SemLoc sig) else .reg barS) = .dma (rsem i) := by decide
theorem kcell_send (c : Dev nD) (i : Fin 28) : kcell (c, sIx i) = sendCell c i := by unfold kcell; rw [sem_sIx]
theorem kcell_recv (c : Dev nD) (i : Fin 28) : kcell (c, rIx i) = recvCell c i := by unfold kcell; rw [sem_rIx]
theorem kcell_bar (c : Dev nD) : kcell (c, 56) = barCell c := rfl

variable (K : Dev nD × Fin 57 → ℕ)

/-- Every cell's invariant, and that it stands at round 0 or later. -/
def records : sProp 𝕄 := bigSep Finset.univ fun p : Dev nD × Fin 57 => iprop(cellInv ER (sched m ρ) (K p) (kcell p) ∗ reached ER (kcell p) 0)

instance : BI.Persistent (records (F := F) m ρ K) := by unfold records; infer_instance

theorem record_at (p : Dev nD × Fin 57) : records (F := F) m ρ K ⊢ iprop(cellInv ER (sched m ρ) (K p) (kcell p) ∗ reached ER (kcell p) 0) :=
  bigSep_elim (Finset.mem_univ p)
theorem record_send (c : Dev nD) (i : Fin 28) : records (F := F) m ρ K ⊢ iprop(cellInv ER (sched m ρ) (K (c, sIx i)) (sendCell c i) ∗ reached ER (sendCell c i) 0) := by
  rw [← kcell_send]; exact record_at m ρ K _
theorem record_recv (c : Dev nD) (i : Fin 28) : records (F := F) m ρ K ⊢ iprop(cellInv ER (sched m ρ) (K (c, rIx i)) (recvCell c i) ∗ reached ER (recvCell c i) 0) := by
  rw [← kcell_recv]; exact record_at m ρ K _
theorem record_bar (c : Dev nD) : records (F := F) m ρ K ⊢ iprop(cellInv ER (sched m ρ) (K (c, 56)) (barCell c) ∗ reached ER (barCell c) 0) := by
  rw [← kcell_bar]; exact record_at m ρ K _

/-- The two duties a copy pays. -/
def perm (c : Dev nD) (i : Fin 28) : sProp 𝕄 := iprop(dutyTok ER (sendCell c i) 0 0 ∗ dutyTok ER (recvCell (xr (mask i) c) i) 0 0)
/-- What a copy needs from the start: its share of `w`, and its destination. -/
def srcW (c : Dev nD) (i : Fin 28) : sProp 𝕄 := if kd i = 0 then wPts m ρ c (pc i) (shareTokN fullShare (qt i)) else iprop(emp)
def dstG (c : Dev nD) (i : Fin 28) : sProp 𝕄 := if kd i = 2 then iprop(emp) else gFree (xr (mask i) c) (dj i) (pc i)
def need (c : Dev nD) (i : Fin 28) : sProp 𝕄 := iprop(perm c i ∗ srcW m ρ c i ∗ dstG c i)
def scred (c : Dev nD) (i : Fin 28) : sProp 𝕄 := cred (tallyAt (sendCell c i) () (N i))
def rready (c : Dev nD) (i : Fin 28) : sProp 𝕄 := iprop(atPos ER (recvCell c i) 0 ∅ 0 ∗ cred (tallyAt (recvCell c i) () (N i)))
def sready (c : Dev nD) (i : Fin 28) : sProp 𝕄 := iprop(atPos ER (sendCell c i) 0 ∅ 0 ∗ cred (tallyAt (sendCell c i) () (N i)))

/-- Where the exchange stands on device `c`: the copies to start, those started, the receive waits to come, those done. -/
def St (c : Dev nD) (td sn rl zl : List (Fin 28)) : sProp 𝕄 :=
  iprop(records m ρ K ∗ levAts L lv ∗ (∃ W, owes (c : Thread nD τ) (owed c td) W)
    ∗ bigSepL td (need m ρ c) ∗ bigSepL sn (scred c) ∗ bigSepL rl (rready c) ∗ bigSepL zl (fun i => semVal (recvCell c i) 0))

/-- The send waits to come, and those done. -/
def SS (c : Dev nD) (sl zl : List (Fin 28)) : sProp 𝕄 :=
  iprop(records m ρ K ∗ (∃ W, owes (c : Thread nD τ) 0 W) ∗ bigSepL sl (sready c) ∗ bigSepL zl (fun i => iprop(semVal (sendCell c i) 0 ∗ sendPay m ρ c i)))

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Starting a copy -/

theorem from_w : ∀ i, kd i = 0 → ∀ c, xr (dj i).succ (xr (mask i) c) = c := by decide
theorem from_g : ∀ i, kd i = 1 → ∀ c, xr (dj i).succ (xr (mask i) c) = xr (sj i).succ c := by decide

theorem N_g {i : Fin 28} (h : kd i ≠ 2) : (gSq (dj i) (pc i)).view.dmaCredit = N i := by unfold N; rw [if_neg h]
theorem N_r {i : Fin 28} (h : kd i = 2) : (pSq rM (dj i)).view.dmaCredit = N i := by unfold N; rw [if_pos h]

section Start

variable (i : Fin 28) (c n : Dev nD) {td sn rl zl : List (Fin 28)}

/-- A copy from `w`. -/
theorem start_w (hk : kd i = 0) (hn : n = xr (mask i) c) {sS sR : DmaSem sig} (hS : sS = ssem i) (hR : sR = rsem i)
    {hsc : (gSq (dj i) (pc i)).view.ref.isScScratch = false} {hsrc : (wSl (pc i)).view.WordExact} {hdst : (gSq (dj i) (pc i)).view.WordExact}
    {hsem : DmaTarget.Typed .vmem (.dma sR) (.remote (Dev.tc n : Thread nD τ) (gSq (dj i) (pc i)) (.dma sS) hsc)}
    {α : Type} {Q : α → sProp 𝕄} {k : PUnit → Prog (TpuEff nD τ sig (Elt F) Λ₀ .tc) α} :
    St m ρ K c (i :: td) sn rl zl
      ⊢ iprop(extra (xr (mask i) c) i -∗ (St m ρ K c td (i :: sn) rl zl -∗ WP c (k ⟨⟩) Q)
          -∗ WP c (.op (.enqueueDma (wSl (pc i)) (.remote (Dev.tc n : Thread nD τ) (gSq (dj i) (pc i)) (.dma sS) hsc) (.dma sR) hsrc hdst hsem) k) Q) := by
  subst hn hS hR
  unfold St
  rw [bigSepL_cons', bigSepL_cons']
  have hk2 : kd i ≠ 2 := by rw [hk]; decide
  unfold need srcW dstG perm
  rw [if_pos hk, if_neg hk2]
  unfold gFree
  iintro ⟨#Hrec, #Hlev, ⟨%W, HO⟩, ⟨⟨⟨HtS, HtR⟩, Hw, ⟨%fd, Hg⟩⟩, Hp⟩, Hsn, Hrl, Hzl⟩
  iintro Hx
  iintro Hk
  ihave #⟨HIs, HRs⟩ := (record_send m ρ K c i) $$ Hrec
  ihave #⟨HIr, HRr⟩ := (record_recv m ρ K (xr (mask i) c) i) $$ Hrec
  unfold wPts
  iapply (Rounds.wp_send_pointsTo_with 𝒱₀ ER (sched m ρ) (c : Thread nD τ) none (c' := (xr (mask i) c : Thread nD τ)) (κ₁ := K (c, sIx i)) (κ₂ := K (xr (mask i) c, rIx i))
    (src := wSl (pc i)) (dst := gSq (dj i) (pc i)) (F := extra (xr (mask i) c) i)
    (sS := .dma (ssem i)) (sem := .dma (rsem i)) (r₁ := 0) (r₂ := 0) (d₁ := 0) (d₂ := 0) (fs := ws m ρ c) (fd := fd)
    (by rw [duties_send]; exact Finset.mem_singleton_self _) (by rw [duties_recv]; exact Finset.mem_singleton_self _)
    () () (N i) (N_g hk2) (amount_send m ρ c i 0) (amount_recv m ρ (xr (mask i) c) i 0) (owed c td) rfl (W := W)
    (by rw [payload_send]; unfold sendPay wPts; rw [if_pos hk])
    (by
      rw [payload_recv]; unfold recvPay; rw [if_neg hk2]
      exact sep_mono_left (landing m ρ _ _ _ _ _ fun a b => by rw [from_w i hk]; exact read_w m ρ c _ a b))) $$ [HO HtS HtR Hw Hg Hx]
  · isplitr; · iexact HIs
    isplitr; · iexact HIr
    isplitl [Hw]; · iexact Hw
    isplitl [Hg Hx]
    · isplitl [Hg]
      · rw [gSq_set]; iexact Hg
      · iexact Hx
    isplitl [HO]; · iexact HO
    isplitl [HtS]; · iexact HtS
    isplitr; · iexact HRs
    isplitl [HtR]; · iexact HtR
    iexact HRr
  iintro ⟨Hc, HO⟩
  iapply Hk
  isplitr; · iexact Hrec
  isplitr; · iexact Hlev
  isplitl [HO]; · iexists W; iexact HO
  isplitl [Hp]; · iexact Hp
  isplitl [Hc Hsn]
  · isplitl [Hc]
    · unfold scred; iexact Hc
    · iexact Hsn
  isplitl [Hrl]; · iexact Hrl
  iexact Hzl

/-- A copy of a landed piece. -/
theorem start_g (hk : kd i = 1) (hn : n = xr (mask i) c) {sS sR : DmaSem sig} (hS : sS = ssem i) (hR : sR = rsem i)
    {hsc : (gSq (dj i) (pc i)).view.ref.isScScratch = false} {hsrc : (gSq (sj i) (pc i)).view.WordExact} {hdst : (gSq (dj i) (pc i)).view.WordExact}
    {hsem : DmaTarget.Typed .vmem (.dma sR) (.remote (Dev.tc n : Thread nD τ) (gSq (dj i) (pc i)) (.dma sS) hsc)}
    {α : Type} {Q : α → sProp 𝕄} {k : PUnit → Prog (TpuEff nD τ sig (Elt F) Λ₀ .tc) α} :
    St m ρ K c (i :: td) sn rl zl
      ⊢ iprop(gPts m ρ c (sj i) (pc i) (shareTokN fullShare (qt i)) -∗ extra (xr (mask i) c) i -∗ (St m ρ K c td (i :: sn) rl zl -∗ WP c (k ⟨⟩) Q)
          -∗ WP c (.op (.enqueueDma (gSq (sj i) (pc i)) (.remote (Dev.tc n : Thread nD τ) (gSq (dj i) (pc i)) (.dma sS) hsc) (.dma sR) hsrc hdst hsem) k) Q) := by
  subst hn hS hR
  unfold St
  rw [bigSepL_cons', bigSepL_cons']
  have hk2 : kd i ≠ 2 := by rw [hk]; decide
  have hk0 : kd i ≠ 0 := by rw [hk]; decide
  unfold need dstG perm
  rw [if_neg hk2]
  unfold gFree
  iintro ⟨#Hrec, #Hlev, ⟨%W, HO⟩, ⟨⟨⟨HtS, HtR⟩, -, ⟨%fd, Hg⟩⟩, Hp⟩, Hsn, Hrl, Hzl⟩
  iintro Hw
  iintro Hx
  iintro Hk
  ihave #⟨HIs, HRs⟩ := (record_send m ρ K c i) $$ Hrec
  ihave #⟨HIr, HRr⟩ := (record_recv m ρ K (xr (mask i) c) i) $$ Hrec
  unfold gPts
  iapply (Rounds.wp_send_pointsTo_with 𝒱₀ ER (sched m ρ) (c : Thread nD τ) none (c' := (xr (mask i) c : Thread nD τ)) (κ₁ := K (c, sIx i)) (κ₂ := K (xr (mask i) c, rIx i))
    (src := gSq (sj i) (pc i)) (dst := gSq (dj i) (pc i)) (F := extra (xr (mask i) c) i)
    (sS := .dma (ssem i)) (sem := .dma (rsem i)) (r₁ := 0) (r₂ := 0) (d₁ := 0) (d₂ := 0) (fs := WG m ρ c) (fd := fd)
    (by rw [duties_send]; exact Finset.mem_singleton_self _) (by rw [duties_recv]; exact Finset.mem_singleton_self _)
    () () (N i) (N_g hk2) (amount_send m ρ c i 0) (amount_recv m ρ (xr (mask i) c) i 0) (owed c td) rfl (W := W)
    (by rw [payload_send]; unfold sendPay gPts; rw [if_neg hk0, if_pos hk, gSq_set])
    (by
      rw [payload_recv]; unfold recvPay; rw [if_neg hk2]
      exact sep_mono_left (landing m ρ _ _ _ _ _ fun a b => by rw [from_g i hk]; exact read_g m ρ c _ _ a b))) $$ [HO HtS HtR Hw Hg Hx]
  · isplitr; · iexact HIs
    isplitr; · iexact HIr
    isplitl [Hw]; · rw [gSq_set]; iexact Hw
    isplitl [Hg Hx]
    · isplitl [Hg]
      · rw [gSq_set]; iexact Hg
      · iexact Hx
    isplitl [HO]; · iexact HO
    isplitl [HtS]; · iexact HtS
    isplitr; · iexact HRs
    isplitl [HtR]; · iexact HtR
    iexact HRr
  iintro ⟨Hc, HO⟩
  iapply Hk
  isplitr; · iexact Hrec
  isplitr; · iexact Hlev
  isplitl [HO]; · iexists W; iexact HO
  isplitl [Hp]; · iexact Hp
  isplitl [Hc Hsn]
  · isplitl [Hc]
    · unfold scred; iexact Hc
    · iexact Hsn
  isplitl [Hrl]; · iexact Hrl
  iexact Hzl

/-- A copy of a finished product. -/
theorem start_r (hk : kd i = 2) (hn : n = xr (mask i) c) {sS sR : DmaSem sig} (hS : sS = ssem i) (hR : sR = rsem i)
    {hsc : (pSq rM (dj i)).view.ref.isScScratch = false} {hsrc : (pSq sM (dj i)).view.WordExact} {hdst : (pSq rM (dj i)).view.WordExact}
    {hsem : DmaTarget.Typed .vmem (.dma sR) (.remote (Dev.tc n : Thread nD τ) (pSq rM (dj i)) (.dma sS) hsc)}
    {α : Type} {Q : α → sProp 𝕄} {k : PUnit → Prog (TpuEff nD τ sig (Elt F) Λ₀ .tc) α} :
    St m ρ K c (i :: td) sn rl zl
      ⊢ iprop(slotP sM c (dj i) (Xd m ρ c (dj i)) -∗ slotF rM (xr (mask i) c) (dj i) -∗ (St m ρ K c td (i :: sn) rl zl -∗ WP c (k ⟨⟩) Q)
          -∗ WP c (.op (.enqueueDma (pSq sM (dj i)) (.remote (Dev.tc n : Thread nD τ) (pSq rM (dj i)) (.dma sS) hsc) (.dma sR) hsrc hdst hsem) k) Q) := by
  subst hn hS hR
  unfold St
  rw [bigSepL_cons', bigSepL_cons']
  have hk1 : kd i ≠ 1 := by rw [hk]; decide
  have hk0 : kd i ≠ 0 := by rw [hk]; decide
  unfold need perm slotF
  iintro ⟨#Hrec, #Hlev, ⟨%W, HO⟩, ⟨⟨⟨HtS, HtR⟩, -⟩, Hp⟩, Hsn, Hrl, Hzl⟩
  iintro Hs
  iintro ⟨%fd, Hg⟩
  iintro Hk
  ihave #⟨HIs, HRs⟩ := (record_send m ρ K c i) $$ Hrec
  ihave #⟨HIr, HRr⟩ := (record_recv m ρ K (xr (mask i) c) i) $$ Hrec
  unfold slotP
  icases Hs with ⟨%fs, %hfs, Hw⟩
  iapply (Rounds.wp_send_pointsTo 𝒱₀ ER (sched m ρ) (c : Thread nD τ) none (c' := (xr (mask i) c : Thread nD τ)) (κ₁ := K (c, sIx i)) (κ₂ := K (xr (mask i) c, rIx i))
    (src := pSq sM (dj i)) (dst := pSq rM (dj i)) (q := fullShare)
    (sS := .dma (ssem i)) (sem := .dma (rsem i)) (r₁ := 0) (r₂ := 0) (d₁ := 0) (d₂ := 0) (fs := fs) (fd := fd)
    (by rw [duties_send]; exact Finset.mem_singleton_self _) (by rw [duties_recv]; exact Finset.mem_singleton_self _)
    () () (N i) (N_r hk) (amount_send m ρ c i 0) (amount_recv m ρ (xr (mask i) c) i 0) (owed c td) rfl (W := W)
    (by
      rw [payload_send]; unfold sendPay slotF; rw [if_neg hk0, if_neg hk1, pSq_set]
      iintro H; iexists fs; iexact H)
    (by
      rw [payload_recv]; unfold recvPay; rw [if_pos hk, xr_xr]
      exact slot_landing rM _ _ _ _ _ fun x => by rw [← hfs]; rfl)) $$ [HO HtS HtR Hw Hg]
  · isplitr; · iexact HIs
    isplitr; · iexact HIr
    isplitl [Hw]; · rw [pSq_set]; iexact Hw
    isplitl [Hg]; · rw [pSq_set]; iexact Hg
    isplitl [HO]; · iexact HO
    isplitl [HtS]; · iexact HtS
    isplitr; · iexact HRs
    isplitl [HtR]; · iexact HtR
    iexact HRr
  iintro ⟨Hc, HO⟩
  iapply Hk
  isplitr; · iexact Hrec
  isplitr; · iexact Hlev
  isplitl [HO]; · iexists W; iexact HO
  isplitl [Hp]; · iexact Hp
  isplitl [Hc Hsn]
  · isplitl [Hc]
    · unfold scred; iexact Hc
    · iexact Hsn
  isplitl [Hrl]; · iexact Hrl
  iexact Hzl

end Start

/-! ## Waiting -/

section Wait

variable (i : Fin 28) (c : Dev nD) {td sn rl zl : List (Fin 28)}

theorem recv_step (hp : ∀ k ∈ td, pos i < pos k) {sR : DmaSem sig} (hR : sR = rsem i)
    {sp sp' : Space} {s s' : Shape} {e e' : EltTy} {src : Memref sig .tc sp' s' e'} {dst : Memref sig .tc sp s e} {hsrc : src.view.WordExact} {hdst : dst.view.WordExact}
    (hN : dst.view.dmaCredit = N i) {α : Type} {Q : α → sProp 𝕄} {k : PUnit → Prog (TpuEff nD τ sig (Elt F) Λ₀ .tc) α} :
    St m ρ K c td sn (i :: rl) zl
      ⊢ iprop((St m ρ K c td sn rl (i :: zl) -∗ recvPay m ρ c i -∗ WP c (k ⟨⟩) Q)
          -∗ WP c (.op (.waitDma2 sR src dst hsrc hdst) k) Q) := by
  subst hR
  unfold St
  rw [bigSepL_cons', bigSepL_cons']
  unfold rready
  iintro ⟨#Hrec, #Hlev, ⟨%W, HO⟩, Hp, Hsn, ⟨⟨Hat, Hc⟩, Hrl⟩, Hzl⟩
  iintro Hk
  ihave #⟨HIr, HRr⟩ := (record_recv m ρ K c i) $$ Hrec
  iapply (Rounds.wp_wait_rest_token 𝒱₀ ER (sched m ρ) (c : Thread nD τ) none (κ := K (c, rIx i))
      (wpE_waitDma2_eq 𝒱₀ (c : Thread nD τ) none Set.univ) (Set.mem_univ _) () (O := owed c td) (W := W) (R := 0) (m := 0) (T := ∅)
      (by rw [expect_recv, Nat.zero_add, hN])) $$ [Hc HO Hat]
  · isplitr; · iexact HIr
    isplitl [Hc]; · rw [hN]; iexact Hc
    isplitl [HO]; · iexact HO
    isplitr
    · iapply (mayWait_owed c (.dma (rsem i)) td (fun k hk => by rw [lv_recv]; have := hp k hk; omega)); iexact Hlev
    iexact Hat
  iintro ⟨HO, Hat, -, Hpay⟩
  ihave Hpay := (Entails.of_eq (rest_recv m ρ c i)) $$ Hpay
  imod (Rounds.cell_close ER (sched m ρ) (Set.mem_univ (K (c, rIx i))) (fun h => h) (R := 0 + 1) (duties_later m ρ (recvCell c i))) $$ [Hat] with Hz
  · isplitr; · iexact HIr
    iexact Hat
  iapply Hk $$ [HO Hp Hsn Hrl Hz Hzl] Hpay
  isplitr; · iexact Hrec
  isplitr; · iexact Hlev
  isplitl [HO]; · iexists _; iexact HO
  isplitl [Hp]; · iexact Hp
  isplitl [Hsn]; · iexact Hsn
  isplitl [Hrl]; · iexact Hrl
  isplitl [Hz]; · iexact Hz
  iexact Hzl

theorem swait_step {sl : List (Fin 28)} {sS : DmaSem sig} (hS : sS = ssem i)
    {sp sp' : Space} {s s' : Shape} {e e' : EltTy} {src : Memref sig .tc sp' s' e'} {dst : Memref sig .tc sp s e} {hsrc : src.view.WordExact} {hdst : dst.view.WordExact}
    (hN : dst.view.dmaCredit = N i) {α : Type} {Q : α → sProp 𝕄} {k : PUnit → Prog (TpuEff nD τ sig (Elt F) Λ₀ .tc) α} :
    SS m ρ K c (i :: sl) zl
      ⊢ iprop((SS m ρ K c sl (i :: zl) -∗ WP c (k ⟨⟩) Q)
          -∗ WP c (.op (.waitDma2 sS src dst hsrc hdst) k) Q) := by
  subst hS
  unfold SS
  rw [bigSepL_cons', bigSepL_cons']
  unfold sready
  iintro ⟨#Hrec, ⟨%W, HO⟩, ⟨⟨Hat, Hc⟩, Hsl⟩, Hzl⟩
  iintro Hk
  ihave #⟨HIr, HRr⟩ := (record_send m ρ K c i) $$ Hrec
  iapply (Rounds.wp_wait_rest_token 𝒱₀ ER (sched m ρ) (c : Thread nD τ) none (κ := K (c, sIx i))
      (wpE_waitDma2_eq 𝒱₀ (c : Thread nD τ) none Set.univ) (Set.mem_univ _) () (O := 0) (W := W) (R := 0) (m := 0) (T := ∅)
      (by rw [expect_send, Nat.zero_add, hN])) $$ [Hc HO Hat]
  · isplitr; · iexact HIr
    isplitl [Hc]; · rw [hN]; iexact Hc
    isplitl [HO]; · iexact HO
    isplitr
    · rw [MayWait_zero]; iempintro
    iexact Hat
  iintro ⟨HO, Hat, -, Hpay⟩
  ihave Hpay := (Entails.of_eq (rest_send m ρ c i)) $$ Hpay
  imod (Rounds.cell_close ER (sched m ρ) (Set.mem_univ (K (c, sIx i))) (fun h => h) (R := 0 + 1) (duties_later m ρ (sendCell c i))) $$ [Hat] with Hz
  · isplitr; · iexact HIr
    iexact Hat
  iapply Hk
  isplitr; · iexact Hrec
  isplitl [HO]; · iexists _; iexact HO
  isplitl [Hsl]; · iexact Hsl
  isplitr [Hzl]
  · isplitl [Hz]; · iexact Hz
    iexact Hpay
  · iexact Hzl

end Wait

/-! ## Adding a product -/

def xPts (c : Dev nD) : sProp 𝕄 := ((c : Thread nD τ).loc cc0_stg0_0) ↦{fullShare} xs m ρ c

theorem acc_step (j : Fin 7) (r : Fin 3) (q : PosShare TreeShare) (c : Dev nD) (X : Vec F S1x512x256 .f32)
    {h1 h2 h3 h4 h5 h6} {p : ((rectS j).shape.Idx → Elt F .f32) → ((rectX r).shape.Idx → Elt F .f32) → ((rectG j r).shape.Idx → Elt F .f32) → ((rectS j).shape.Idx → Elt F .f32)}
    (hp : p X (xP m ρ c r) (gP m ρ c j r) = acc m ρ c j r X) {α : Type} {Q : α → sProp 𝕄} {k : PUnit → Prog (TpuEff nD τ sig (Elt F) Λ₀ .tc) α} :
    slotP sM c j X
      ⊢ iprop(xPts m ρ c -∗ gPts m ρ c j r q -∗ (slotP sM c j (acc m ρ c j r X) -∗ xPts m ρ c -∗ gPts m ρ c j r q -∗ WP c (k ⟨⟩) Q)
          -∗ WP c (.op (.load sM (rectS j).toLoadRect h1) fun a => .op (.load xM (rectX r).toLoadRect h2) fun x => .op (.load gM (rectG j r).toLoadRect h3) fun w =>
            .op (.load sM (rectS j).toLoadRect h4) fun _ => .op (.store sM (rectS j) (p a x w) Finset.univ h5 h6) k) Q) := by
  iintro Hs
  iintro Hx
  iintro Hg
  iintro Hk
  unfold slotP xPts gPts
  icases Hs with ⟨%f, %hf, Hs⟩
  subst hf
  iapply (wp_load_rect 𝒱₀ (c : Thread nD τ) none Set.univ (m := sM) (r := rectS j) (Finset.Subset.refl _)) $$ Hs
  iintro Hs
  iapply (wp_load 𝒱₀ (c : Thread nD τ) none Set.univ (m := xM) (Finset.subset_univ _)) $$ Hx
  iintro Hx
  iapply (wp_load_rect 𝒱₀ (c : Thread nD τ) none Set.univ (m := gM) (r := rectG j r) (Finset.Subset.refl _)) $$ Hg
  iintro Hg
  iapply (wp_load_rect 𝒱₀ (c : Thread nD τ) none Set.univ (m := sM) (r := rectS j) (Finset.Subset.refl _)) $$ Hs
  iintro Hs
  iapply (wp_store 𝒱₀ (c : Thread nD τ) none Set.univ (m := sM) (r := rectS j) (Mk := Finset.univ) (S := (sM.access (rectS j)).set) (f := f) (w := p ((sM.access (rectS j)).read (Elt F) f) (xP m ρ c r) (gP m ρ c j r)) (Finset.Subset.refl _)) $$ Hs
  iintro Hs
  iapply Hk $$ [Hs] Hx Hg
  · iexists ((sM.access (rectS j)).write (Elt F) f (p ((sM.access (rectS j)).read (Elt F) f) (xP m ρ c r) (gP m ρ c j r)) Finset.univ)
    isplitr
    · ipureintro
      exact (View.read_write_univ _ _).trans hp
    · iexact Hs

/-! ## The result -/

/-- The block of the result for the device `δ` steps away. -/
def blkVal (c : Dev nD) (δ : Fin 8) : Vec F S512x256 .f32 :=
  Fin.cases (k0_pay2 (xs m ρ c) (ws m ρ c)) (fun j => k0_pay36 (Xd m ρ (xr j.succ c) j)) δ

/-- The kernel's result on device `c`. -/
def OUT (c : Dev nD) : (cc0_stg2_0 : Ref sig .tc).ty.Contents (Elt F) := fun x : S4096x256.Idx =>
  blkVal m ρ c (xr ⟨(x (0 : Fin 2)).val / 512, by have : (x (0 : Fin 2)).val < 4096 := (x (0 : Fin 2)).isLt; omega⟩ c)
    (ix2 (n0 := 512) (n1 := 256) ⟨(x (0 : Fin 2)).val % 512, Nat.mod_lt _ (by decide)⟩ (x (1 : Fin 2)))

/-- The result with the blocks of the listed steps written. -/
def outSt (c : Dev nD) (l : List (Fin 8)) : sProp 𝕄 :=
  iprop(∃ f : (cc0_stg2_0 : Ref sig .tc).ty.Contents (Elt F), ⌜∀ x : S4096x256.Idx, ∀ δ ∈ l, (x (0 : Fin 2)).val / 512 = (xr δ c).val → f x = OUT m ρ c x⌝
    ∗ (c : Thread nD τ).loc cc0_stg2_0 ↦{fullShare} f)

theorem xr_comm : ∀ (k c : Fin 8), xr (xr k c) c = k := by decide

theorem OUT_at (c : Dev nD) (δ : Fin 8) (x : S4096x256.Idx) (a : Fin 512) (b : Fin 256)
    (h0 : (x (0 : Fin 2)).val = 512 * (xr δ c).val + a.val) (h1 : (x (1 : Fin 2)).val = b.val) : OUT m ρ c x = blkVal m ρ c δ (ix2 a b) := by
  have ha := a.isLt
  have e1 : (⟨(x (0 : Fin 2)).val / 512, by have : (x (0 : Fin 2)).val < 4096 := (x (0 : Fin 2)).isLt; omega⟩ : Fin 8) = xr δ c := Fin.ext (by show _ / 512 = _; omega)
  have e2 : (⟨(x (0 : Fin 2)).val % 512, Nat.mod_lt _ (by decide)⟩ : Fin 512) = a := Fin.ext (by show _ % 512 = _; omega)
  have e3 : (x (1 : Fin 2) : Fin 256) = b := Fin.ext h1
  unfold OUT
  rw [e1, e2, e3, xr_comm]

theorem write_block (c : Dev nD) (δ : Fin 8) {o : Fin 2 → ℕ} (ho : o = ![512 * (xr δ c).val, 0]) (hb : ∀ a, o a + S512x256.size a ≤ S4096x256.size a)
    (f : (cc0_stg2_0 : Ref sig .tc).ty.Contents (Elt F)) (w : S512x256.Idx → Elt F .f32) (hw : w = blkVal m ρ c δ) (l : List (Fin 8))
    (hf : ∀ x : S4096x256.Idx, ∀ δ ∈ l, (x (0 : Fin 2)).val / 512 = (xr δ c).val → f x = OUT m ρ c x) (x : S4096x256.Idx) (δ' : Fin 8) (hδ : δ' ∈ δ :: l)
    (hx : (x (0 : Fin 2)).val / 512 = (xr δ' c).val) :
    (oM.access (Rect.unit (s := S4096x256) o S512x256.size hb)).write (Elt F) f w Finset.univ x = OUT m ρ c x := by
  subst ho hw
  by_cases hm : x ∈ (oM.access (Rect.unit (s := S4096x256) ![512 * (xr δ c).val, 0] S512x256.size hb)).setOn Finset.univ
  · obtain ⟨y, -, rfl⟩ := Finset.mem_map.mp hm
    rw [View.write_emb_of_mem _ _ (Finset.mem_univ y)]
    rw [OUT_at m ρ c δ _ (y (0 : Fin 2)) (y (1 : Fin 2))
      (by show 512 * (xr δ c).val + 1 * (y (0 : Fin 2)).val = _; omega) (by show 0 + 1 * (y (1 : Fin 2)).val = _; omega)]
    exact congrArg (blkVal m ρ c δ) (eq_ix2 y)
  · rw [View.write_of_not_mem _ _ _ hm]
    refine hf x δ' ?_ hx
    rcases List.mem_cons.mp hδ with rfl | h
    · exfalso
      apply hm
      have h0 : (x (0 : Fin 2)).val < 4096 := (x (0 : Fin 2)).isLt
      refine Finset.mem_map.mpr ⟨ix2 (n0 := 512) (n1 := 256) ⟨(x (0 : Fin 2)).val % 512, Nat.mod_lt _ (by decide)⟩ (x (1 : Fin 2)), Finset.mem_univ _, ?_⟩
      refine idx2x ?_ ?_
      · show 512 * (xr δ' c).val + 1 * ((x (0 : Fin 2)).val % 512) = (x (0 : Fin 2)).val; omega
      · show 0 + 1 * (x (1 : Fin 2)).val = _; omega
    · exact h

/-- Storing a received product. -/
theorem out_step (j : Fin 7) (c : Dev nD) {l : List (Fin 8)} {o : Fin 2 → ℕ} (ho : o = ![512 * (xr j.succ c).val, 0]) {hb : ∀ a, o a + S512x256.size a ≤ S4096x256.size a}
    {h1 h2 h5 h6} {p : ((rectS j).shape.Idx → Elt F .f32) → (S512x256.Idx → Elt F .f32)}
    (hp : p (Xd m ρ (xr j.succ c) j) = k0_pay36 (Xd m ρ (xr j.succ c) j)) {α : Type} {Q : α → sProp 𝕄} {k : PUnit → Prog (TpuEff nD τ sig (Elt F) Λ₀ .tc) α} :
    slotP rM c j (Xd m ρ (xr j.succ c) j)
      ⊢ iprop(outSt m ρ c l -∗ (slotP rM c j (Xd m ρ (xr j.succ c) j) -∗ outSt m ρ c (j.succ :: l) -∗ WP c (k ⟨⟩) Q)
          -∗ WP c (.op (.load rM (rectS j).toLoadRect h1) fun a => .op (.load oM (Rect.unit (s := S4096x256) o S512x256.size hb).toLoadRect h2) fun _ =>
            .op (.store oM (Rect.unit (s := S4096x256) o S512x256.size hb) (p a) Finset.univ h5 h6) k) Q) := by
  iintro Hs
  iintro Ho
  iintro Hk
  unfold slotP outSt
  icases Hs with ⟨%f, %hf, Hs⟩
  icases Ho with ⟨%g, %hg, Ho⟩
  iapply (wp_load_rect 𝒱₀ (c : Thread nD τ) none Set.univ (m := rM) (r := rectS j) (Finset.Subset.refl _)) $$ Hs
  iintro Hs
  iapply (wp_load 𝒱₀ (c : Thread nD τ) none Set.univ (m := oM) (Finset.subset_univ _)) $$ Ho
  iintro Ho
  iapply (wp_store 𝒱₀ (c : Thread nD τ) none Set.univ (m := oM) (r := Rect.unit (s := S4096x256) o S512x256.size hb) (Mk := Finset.univ) (S := Finset.univ) (f := g) (w := p ((rM.access (rectS j)).read (Elt F) f)) (Finset.subset_univ _)) $$ Ho
  iintro Ho
  iapply Hk $$ [Hs] [Ho]
  · iexists f
    isplitr
    · ipureintro; exact hf
    · iexact Hs
  · iexists ((oM.access (Rect.unit (s := S4096x256) o S512x256.size hb)).write (Elt F) g (p ((rM.access (rectS j)).read (Elt F) f)) Finset.univ)
    isplitr
    · ipureintro
      exact write_block m ρ c j.succ ho hb g _ (by rw [hf]; exact hp) l hg
    · iexact Ho

end Cert.KernelIdeal.Xor

end
-- ==== Proof.KiOps.lean ====
/-
The operations of the exchange as the body uses them, and which device each one names.
-/
module

public import proofs.«01_k».proof.Proof.KiStep

@[expose] public section

noncomputable section

namespace Cert.KernelIdeal.Xor

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices and the offsets the body computes -/

theorem dev4 : ∀ c : Dev nD, (⟨k0_dev4 c, k0_dev4_lt c⟩ : Dev nD) = xr (mask 0) c := by decide +kernel
theorem dev5 : ∀ c : Dev nD, (⟨k0_dev5 c, k0_dev5_lt c⟩ : Dev nD) = xr (mask 1) c := by decide +kernel
theorem dev6 : ∀ c : Dev nD, (⟨k0_dev6 c, k0_dev6_lt c⟩ : Dev nD) = xr (mask 2) c := by decide +kernel
theorem dev7 : ∀ c : Dev nD, (⟨k0_dev7 c, k0_dev7_lt c⟩ : Dev nD) = xr (mask 3) c := by decide +kernel
theorem dev8 : ∀ c : Dev nD, (⟨k0_dev8 c, k0_dev8_lt c⟩ : Dev nD) = xr (mask 5) c := by decide +kernel
theorem dev9 : ∀ c : Dev nD, (⟨k0_dev9 c, k0_dev9_lt c⟩ : Dev nD) = xr (mask 7) c := by decide +kernel
theorem dev10 : ∀ c : Dev nD, (⟨k0_dev10 c, k0_dev10_lt c⟩ : Dev nD) = xr (mask 9) c := by decide +kernel
theorem dev11 : ∀ c : Dev nD, (⟨k0_dev11 c, k0_dev11_lt c⟩ : Dev nD) = xr (mask 13) c := by decide +kernel
theorem dev12 : ∀ c : Dev nD, (⟨k0_dev12 c, k0_dev12_lt c⟩ : Dev nD) = xr (mask 17) c := by decide +kernel
theorem dev13 : ∀ c : Dev nD, (⟨k0_dev13 c, k0_dev13_lt c⟩ : Dev nD) = xr (mask 4) c := by decide +kernel
theorem dev14 : ∀ c : Dev nD, (⟨k0_dev14 c, k0_dev14_lt c⟩ : Dev nD) = xr (mask 10) c := by decide +kernel
theorem dev15 : ∀ c : Dev nD, (⟨k0_dev15 c, k0_dev15_lt c⟩ : Dev nD) = xr (mask 6) c := by decide +kernel
theorem dev16 : ∀ c : Dev nD, (⟨k0_dev16 c, k0_dev16_lt c⟩ : Dev nD) = xr (mask 14) c := by decide +kernel
theorem dev17 : ∀ c : Dev nD, (⟨k0_dev17 c, k0_dev17_lt c⟩ : Dev nD) = xr (mask 8) c := by decide +kernel
theorem dev18 : ∀ c : Dev nD, (⟨k0_dev18 c, k0_dev18_lt c⟩ : Dev nD) = xr (mask 18) c := by decide +kernel
theorem dev19 : ∀ c : Dev nD, (⟨k0_dev19 c, k0_dev19_lt c⟩ : Dev nD) = xr (mask 11) c := by decide +kernel
theorem dev20 : ∀ c : Dev nD, (⟨k0_dev20 c, k0_dev20_lt c⟩ : Dev nD) = xr (mask 12) c := by decide +kernel
theorem dev21 : ∀ c : Dev nD, (⟨k0_dev21 c, k0_dev21_lt c⟩ : Dev nD) = xr (mask 15) c := by decide +kernel
theorem dev22 : ∀ c : Dev nD, (⟨k0_dev22 c, k0_dev22_lt c⟩ : Dev nD) = xr (mask 16) c := by decide +kernel
theorem dev23 : ∀ c : Dev nD, (⟨k0_dev23 c, k0_dev23_lt c⟩ : Dev nD) = xr (mask 19) c := by decide +kernel
theorem dev24 : ∀ c : Dev nD, (⟨k0_dev24 c, k0_dev24_lt c⟩ : Dev nD) = xr (mask 20) c := by decide +kernel
theorem dev25 : ∀ c : Dev nD, (⟨k0_dev25 c, k0_dev25_lt c⟩ : Dev nD) = xr (mask 24) c := by decide +kernel
theorem dev26 : ∀ c : Dev nD, (⟨k0_dev26 c, k0_dev26_lt c⟩ : Dev nD) = xr (mask 21) c := by decide +kernel
theorem dev27 : ∀ c : Dev nD, (⟨k0_dev27 c, k0_dev27_lt c⟩ : Dev nD) = xr (mask 23) c := by decide +kernel
theorem dev28 : ∀ c : Dev nD, (⟨k0_dev28 c, k0_dev28_lt c⟩ : Dev nD) = xr (mask 27) c := by decide +kernel
theorem dev29 : ∀ c : Dev nD, (⟨k0_dev29 c, k0_dev29_lt c⟩ : Dev nD) = xr (mask 25) c := by decide +kernel
theorem dev30 : ∀ c : Dev nD, (⟨k0_dev30 c, k0_dev30_lt c⟩ : Dev nD) = xr (mask 22) c := by decide +kernel
theorem dev31 : ∀ c : Dev nD, (⟨k0_dev31 c, k0_dev31_lt c⟩ : Dev nD) = xr (mask 26) c := by decide +kernel
theorem dev1 : ∀ c : Dev nD, (⟨k0_dev1 c, k0_dev1_lt c⟩ : Dev nD) = xr 1 c := by decide +kernel
theorem dev2 : ∀ c : Dev nD, (⟨k0_dev2 c, k0_dev2_lt c⟩ : Dev nD) = xr 3 c := by decide +kernel
theorem dev3 : ∀ c : Dev nD, (⟨k0_dev3 c, k0_dev3_lt c⟩ : Dev nD) = xr 4 c := by decide +kernel

theorem xr_zero : ∀ c : Dev nD, xr 0 c = c := by decide
theorem off1 (c : Dev nD) : k0_off1 c = ![512 * (xr 0 c).val, 0] := by rw [xr_zero]; exact k0_off1_eq c
theorem off2 : ∀ (c : Dev nD) (j : Fin 7), k0_off2 c (BitVec.ofNat 32 (1 + j.val)) = ![512 * (xr j.succ c).val, 0] := by decide +kernel

/-! ## A send wait names the source's credit -/

theorem cr_w : ∀ i : Fin 28, kd i = 0 → (wSl (pc i)).view.dmaCredit = N i := by decide +kernel
theorem cr_g : ∀ i : Fin 28, kd i = 1 → (gSq (sj i) (pc i)).view.dmaCredit = N i := by decide +kernel
theorem cr_p : ∀ i : Fin 28, kd i = 2 → (pSq sM (dj i)).view.dmaCredit = N i := by decide +kernel

/-! ## The steps without passengers -/

omit [FloatOps F] in
theorem extra_emp {i : Fin 28} (h : i ≠ 1 ∧ i ≠ 2 ∧ i ≠ 6) (c : Dev nD) : extra (F := F) c i = iprop(emp) := by
  unfold extra; rw [if_neg h.1, if_neg h.2.1, if_neg h.2.2]

omit [FloatOps F] in
theorem split1 (c : Dev nD) (j : Fin 7) (r : Fin 3) :
    gPts (F := F) m ρ c j r fullShare ⊢ iprop(gPts m ρ c j r (shareDrop fullShare 1) ∗ gPts m ρ c j r (shareTokN fullShare 0)) := by
  unfold gPts
  refine (Transfers.pointsTo_toks_range fullShare 1).1.trans ?_
  rw [BI.bigSep_range_succ, Finset.range_zero, bigSep_empty]
  iintro ⟨H1, H2, -⟩
  isplitl [H1]
  · iexact H1
  · iexact H2

omit [FloatOps F] in
theorem split2 (c : Dev nD) (j : Fin 7) (r : Fin 3) :
    gPts (F := F) m ρ c j r fullShare ⊢ iprop(gPts m ρ c j r (shareDrop fullShare 2) ∗ gPts m ρ c j r (shareTokN fullShare 0) ∗ gPts m ρ c j r (shareTokN fullShare 1)) := by
  unfold gPts
  refine (Transfers.pointsTo_toks_range fullShare 2).1.trans ?_
  rw [BI.bigSep_range_succ, BI.bigSep_range_succ, Finset.range_zero, bigSep_empty]
  iintro ⟨H1, H2, H3, -⟩
  isplitl [H1]
  · iexact H1
  · isplitl [H3]
    · iexact H3
    · iexact H2

omit [FloatOps F] in
theorem extra_1 (c : Dev nD) : extra (F := F) c 1 = iprop(slotF rM (xr 2 c) 1 ∗ slotF rM (xr 7 c) 6 ∗ slotF rM (xr 2 c) 5) := rfl
omit [FloatOps F] in
theorem extra_2 (c : Dev nD) : extra (F := F) c 2 = slotF rM (xr 5 c) 4 := rfl
omit [FloatOps F] in
theorem extra_6 (c : Dev nD) : extra (F := F) c 6 = slotF rM (xr 6 c) 5 := rfl

variable (K : Dev nD × Fin 57 → ℕ)

section Start

variable (i : Fin 28) (c n : Dev nD) {td sn rl zl : List (Fin 28)}

theorem start_w0 (hk : kd i = 0) (hx : i ≠ 1 ∧ i ≠ 2 ∧ i ≠ 6) (hn : n = xr (mask i) c) {sS sR : DmaSem sig} (hS : sS = ssem i) (hR : sR = rsem i)
    {hsc : (gSq (dj i) (pc i)).view.ref.isScScratch = false} {hsrc : (wSl (pc i)).view.WordExact} {hdst : (gSq (dj i) (pc i)).view.WordExact}
    {hsem : DmaTarget.Typed .vmem (.dma sR) (.remote (Dev.tc n : Thread nD τ) (gSq (dj i) (pc i)) (.dma sS) hsc)}
    {α : Type} {Q : α → sProp 𝕄} {k : PUnit → Prog (TpuEff nD τ sig (Elt F) Λ₀ .tc) α} :
    St m ρ K c (i :: td) sn rl zl
      ⊢ iprop((St m ρ K c td (i :: sn) rl zl -∗ WP c (k ⟨⟩) Q)
          -∗ WP c (.op (.enqueueDma (wSl (pc i)) (.remote (Dev.tc n : Thread nD τ) (gSq (dj i) (pc i)) (.dma sS) hsc) (.dma sR) hsrc hdst hsem) k) Q) := by
  refine (start_w m ρ K i c n hk hn hS hR (hsc := hsc) (hsrc := hsrc) (hdst := hdst) (hsem := hsem) (k := k) (Q := Q)).trans ?_
  rw [extra_emp hx]
  iintro H
  iapply H
  iempintro

theorem start_g0 (j : Fin 7) (r : Fin 3) (t : ℕ) (hj : sj i = j) (hr : pc i = r) (ht : qt i = t) (hk : kd i = 1) (hx : i ≠ 1 ∧ i ≠ 2 ∧ i ≠ 6) (hn : n = xr (mask i) c) {sS sR : DmaSem sig} (hS : sS = ssem i) (hR : sR = rsem i)
    {hsc : (gSq (dj i) (pc i)).view.ref.isScScratch = false} {hsrc : (gSq (sj i) (pc i)).view.WordExact} {hdst : (gSq (dj i) (pc i)).view.WordExact}
    {hsem : DmaTarget.Typed .vmem (.dma sR) (.remote (Dev.tc n : Thread nD τ) (gSq (dj i) (pc i)) (.dma sS) hsc)}
    {α : Type} {Q : α → sProp 𝕄} {k : PUnit → Prog (TpuEff nD τ sig (Elt F) Λ₀ .tc) α} :
    St m ρ K c (i :: td) sn rl zl
      ⊢ iprop(gPts m ρ c j r (shareTokN fullShare t) -∗ (St m ρ K c td (i :: sn) rl zl -∗ WP c (k ⟨⟩) Q)
          -∗ WP c (.op (.enqueueDma (gSq (sj i) (pc i)) (.remote (Dev.tc n : Thread nD τ) (gSq (dj i) (pc i)) (.dma sS) hsc) (.dma sR) hsrc hdst hsem) k) Q) := by
  subst hj hr ht
  refine (start_g m ρ K i c n hk hn hS hR (hsc := hsc) (hsrc := hsrc) (hdst := hdst) (hsem := hsem) (k := k) (Q := Q)).trans ?_
  rw [extra_emp hx]
  iintro H Hg
  iapply H $$ Hg
  iempintro

theorem xr46 : ∀ c : Dev nD, xr 6 (xr 4 c) = xr 2 c := by decide

/-- Copy 6 passes a product slot on. -/
theorem start_g6 (hn : n = xr (mask 6) c) {sS sR : DmaSem sig} (hS : sS = ssem 6) (hR : sR = rsem 6)
    {hsc : (gSq (dj 6) (pc 6)).view.ref.isScScratch = false} {hsrc : (gSq (sj 6) (pc 6)).view.WordExact} {hdst : (gSq (dj 6) (pc 6)).view.WordExact}
    {hsem : DmaTarget.Typed .vmem (.dma sR) (.remote (Dev.tc n : Thread nD τ) (gSq (dj 6) (pc 6)) (.dma sS) hsc)}
    {α : Type} {Q : α → sProp 𝕄} {k : PUnit → Prog (TpuEff nD τ sig (Elt F) Λ₀ .tc) α} :
    St m ρ K c (6 :: td) sn rl zl
      ⊢ iprop(gPts m ρ c 2 1 (shareTokN fullShare 0) -∗ slotF rM (xr 2 c) 5 -∗ (St m ρ K c td (6 :: sn) rl zl -∗ WP c (k ⟨⟩) Q)
          -∗ WP c (.op (.enqueueDma (gSq (sj 6) (pc 6)) (.remote (Dev.tc n : Thread nD τ) (gSq (dj 6) (pc 6)) (.dma sS) hsc) (.dma sR) hsrc hdst hsem) k) Q) := by
  refine (start_g m ρ K 6 c n rfl hn hS hR (hsc := hsc) (hsrc := hsrc) (hdst := hdst) (hsem := hsem) (k := k) (Q := Q)).trans ?_
  rw [extra_6, show xr 6 (xr (mask 6) c) = xr 2 c from xr46 c]
  exact Entails.refl _

theorem start_p (j : Fin 7) (δ : Fin 8) (X : Vec F S1x512x256 .f32) (hj : dj i = j) (hm : mask i = δ) (hk : kd i = 2) (hX : X = Xd m ρ c j) (hn : n = xr (mask i) c) {sS sR : DmaSem sig} (hS : sS = ssem i) (hR : sR = rsem i)
    {hsc : (pSq rM j).view.ref.isScScratch = false} {hsrc : (pSq sM j).view.WordExact} {hdst : (pSq rM j).view.WordExact}
    {hsem : DmaTarget.Typed .vmem (.dma sR) (.remote (Dev.tc n : Thread nD τ) (pSq rM j) (.dma sS) hsc)}
    {α : Type} {Q : α → sProp 𝕄} {k : PUnit → Prog (TpuEff nD τ sig (Elt F) Λ₀ .tc) α} :
    St m ρ K c (i :: td) sn rl zl
      ⊢ iprop(slotP sM c j X -∗ slotF rM (xr δ c) j -∗ (St m ρ K c td (i :: sn) rl zl -∗ WP c (k ⟨⟩) Q)
          -∗ WP c (.op (.enqueueDma (pSq sM j) (.remote (Dev.tc n : Thread nD τ) (pSq rM j) (.dma sS) hsc) (.dma sR) hsrc hdst hsem) k) Q) := by
  subst hj hX
  rw [← hm]
  exact start_r m ρ K i c n hk hn hS hR

end Start

section Wait

variable (i : Fin 28) (c : Dev nD) {td sn rl zl : List (Fin 28)}

theorem recv_g (j : Fin 7) (r : Fin 3) (hj : dj i = j) (hr : pc i = r) (hk : kd i ≠ 2) (hp : ∀ k ∈ td, pos i < pos k) {sR : DmaSem sig} (hR : sR = rsem i)
    {sp sp' : Space} {s s' : Shape} {e e' : EltTy} {src : Memref sig .tc sp' s' e'} {dst : Memref sig .tc sp s e} {hsrc : src.view.WordExact} {hdst : dst.view.WordExact}
    (hN : dst.view.dmaCredit = N i) {α : Type} {Q : α → sProp 𝕄} {k : PUnit → Prog (TpuEff nD τ sig (Elt F) Λ₀ .tc) α} :
    St m ρ K c td sn (i :: rl) zl
      ⊢ iprop((St m ρ K c td sn rl (i :: zl) -∗ (gPts m ρ c j r fullShare ∗ extra c i) -∗ WP c (k ⟨⟩) Q)
          -∗ WP c (.op (.waitDma2 sR src dst hsrc hdst) k) Q) := by
  subst hj hr
  refine (recv_step m ρ K i c hp hR (hsrc := hsrc) (hdst := hdst) hN (k := k) (Q := Q)).trans ?_
  unfold recvPay
  rw [if_neg hk]

theorem recv_r (j : Fin 7) (hj : dj i = j) (hm : mask i = j.succ) (hk : kd i = 2) (hp : ∀ k ∈ td, pos i < pos k) {sR : DmaSem sig} (hR : sR = rsem i)
    {sp sp' : Space} {s s' : Shape} {e e' : EltTy} {src : Memref sig .tc sp' s' e'} {dst : Memref sig .tc sp s e} {hsrc : src.view.WordExact} {hdst : dst.view.WordExact}
    (hN : dst.view.dmaCredit = N i) {α : Type} {Q : α → sProp 𝕄} {k : PUnit → Prog (TpuEff nD τ sig (Elt F) Λ₀ .tc) α} :
    St m ρ K c td sn (i :: rl) zl
      ⊢ iprop((St m ρ K c td sn rl (i :: zl) -∗ slotP rM c j (Xd m ρ (xr j.succ c) j) -∗ WP c (k ⟨⟩) Q)
          -∗ WP c (.op (.waitDma2 sR src dst hsrc hdst) k) Q) := by
  subst hj
  rw [← hm]
  refine (recv_step m ρ K i c hp hR (hsrc := hsrc) (hdst := hdst) hN (k := k) (Q := Q)).trans ?_
  unfold recvPay
  rw [if_pos hk]

end Wait

end Cert.KernelIdeal.Xor

end
-- ==== Proof.KiParts.lean ====
/-
The buffers split into pieces, rows, slots and read shares, and joined again; the lists of copies regrouped.
-/
module

public import proofs.«01_k».proof.Proof.KiOps

@[expose] public section

noncomputable section

namespace Cert.KernelIdeal.Xor

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSepL_both {M : Type} [URA M] {I : Type} (l : List I) (Φ Ψ : I → sProp M) :
    iprop(bigSepL l Φ ∗ bigSepL l Ψ) = bigSepL l fun i => iprop(Φ i ∗ Ψ i) := by
  induction l with
  | nil => exact equiv_iff.mp emp_sep
  | cons i l ih =>
    rw [bigSepL_cons', bigSepL_cons', bigSepL_cons', ← ih]
    exact equiv_iff.mp ⟨(sep_sep_sep_comm (PROP := sProp M)).1, (sep_sep_sep_comm (PROP := sProp M)).2⟩

/-! ## The landing buffer -/

theorem pieces_apart : ∀ r r' : Fin 3, r ≠ r' → off r + len r ≤ off r' ∨ off r' + len r' ≤ off r := by decide
theorem piece_of (n : ℕ) (h : n < 4096) : ∃ r : Fin 3, off r ≤ n ∧ n < off r + len r := by
  by_cases h0 : n < 1368
  · exact ⟨0, Nat.zero_le _, by show n < 0 + 1368; omega⟩
  · by_cases h1 : n < 2736
    · exact ⟨1, by show 1368 ≤ n; omega, by show n < 1368 + 1368; omega⟩
    · exact ⟨2, by show 2736 ≤ n; omega, by show n < 2736 + 1360; omega⟩

theorem mem_g (p : Fin 7 × Fin 3) (i : S7x4096x256.Idx) :
    i ∈ (gM.access (rectG p.1 p.2)).set ↔ (i (0 : Fin 3)).val = p.1.val ∧ off p.2 ≤ (i (1 : Fin 3)).val ∧ (i (1 : Fin 3)).val < off p.2 + len p.2 := by
  rw [show (gM.access (rectG p.1 p.2)).set = (rectG p.1 p.2).set from View.set_slice_whole cc0_scratch0 (rectG p.1 p.2), Rect.mem_set_unit]
  constructor
  · intro h
    have h0 := h (0 : Fin 3)
    have h1 := h (1 : Fin 3)
    have a0 : p.1.val ≤ (i (0 : Fin 3)).val ∧ (i (0 : Fin 3)).val < p.1.val + 1 := h0
    exact ⟨by omega, h1⟩
  · rintro ⟨h0, h1, h2⟩ a
    have hb : (i (2 : Fin 3)).val < 256 := (i (2 : Fin 3)).isLt
    fin_cases a
    · show p.1.val ≤ (i (0 : Fin 3)).val ∧ (i (0 : Fin 3)).val < p.1.val + 1; omega
    · exact ⟨h1, h2⟩
    · show 0 ≤ (i (2 : Fin 3)).val ∧ (i (2 : Fin 3)).val < 0 + 256; omega

theorem g_apart (p p' : Fin 7 × Fin 3) (h : p ≠ p') : Disjoint (gM.access (rectG p.1 p.2)).set (gM.access (rectG p'.1 p'.2)).set := by
  refine Finset.disjoint_left.mpr fun i hi hi' => ?_
  obtain ⟨a, b, d⟩ := (mem_g p i).mp hi
  obtain ⟨a', b', d'⟩ := (mem_g p' i).mp hi'
  apply h
  refine Prod.ext (Fin.ext (a.symm.trans a')) ?_
  by_contra hne
  rcases pieces_apart _ _ hne with h | h <;> omega

omit [FloatOps F] in
theorem g_pieces (c : Dev nD) (f : Buf (Elt F) ((c : Thread nD τ).loc cc0_scratch0)) :
    (((c : Thread nD τ).loc cc0_scratch0) ↦{fullShare} f : sProp 𝕄)
      = bigSep Finset.univ fun p : Fin 7 × Fin 3 => ((c : Thread nD τ).loc cc0_scratch0) ↦[(gM.access (rectG p.1 p.2)).set]{fullShare} f := by
  rw [Ring.pointsTo_blocks (fun p : Fin 7 × Fin 3 => (gM.access (rectG p.1 p.2)).set) (fun p p' h => g_apart p p' h)
    (Finset.eq_univ_iff_forall.mpr fun i => by
      obtain ⟨r, h1, h2⟩ := piece_of (i (1 : Fin 3)).val (i (1 : Fin 3)).isLt
      exact Finset.mem_biUnion.mpr ⟨(⟨(i (0 : Fin 3)).val, (i (0 : Fin 3)).isLt⟩, r), Finset.mem_univ _, (mem_g _ i).mpr ⟨rfl, h1, h2⟩⟩)]

omit [FloatOps F] in
/-- The landing buffer as the barrier signals hand it over. -/
theorem g_give (c : Dev nD) (f : Buf (Elt F) ((c : Thread nD τ).loc cc0_scratch0)) :
    (((c : Thread nD τ).loc cc0_scratch0) ↦{fullShare} f : sProp 𝕄) ⊢ iprop(giveG c 0 ∗ giveG c 1 ∗ giveG c 2) := by
  rw [g_pieces]
  refine (bigSep_mono fun p _ => (show _ ⊢ gFree (F := F) c p.1 p.2 by unfold gFree; iintro H; iexists f; iexact H)).trans ?_
  rw [bigSep_univ_eq_bigSepL ((copiesOf 0 ++ (copiesOf 1 ++ copiesOf 2)).map fun i => (dj i, pc i)) (by decide) (by decide), bigSepL_map, bigSepL_append, bigSepL_append]
  exact Entails.refl _

omit [FloatOps F] in
/-- And joined once every piece has landed. -/
theorem g_join (c : Dev nD) :
    (bigSepL [((0 : Fin 7), (0 : Fin 3)), (0, 1), (0, 2), (1, 0), (1, 1), (1, 2), (2, 0), (2, 1), (2, 2), (3, 0), (3, 1), (3, 2), (4, 0), (4, 1), (4, 2), (5, 0), (5, 1), (5, 2), (6, 0), (6, 1), (6, 2)]
      (fun p => gPts (F := F) m ρ c p.1 p.2 fullShare) : sProp 𝕄) ⊢ iprop(∃ f, ((c : Thread nD τ).loc cc0_scratch0) ↦{fullShare} f) := by
  rw [← bigSep_univ_eq_bigSepL _ (by decide) (by decide)]
  iintro H
  iexists (WG m ρ c)
  rw [g_pieces]
  iexact H

omit [FloatOps F] in
theorem join1 (c : Dev nD) (j : Fin 7) (r : Fin 3) :
    gPts (F := F) m ρ c j r (shareDrop fullShare 1) ⊢ iprop(gPts m ρ c j r (shareTokN fullShare 0) -∗ gPts m ρ c j r fullShare) := by
  iintro H1 H2
  unfold gPts
  iapply (Transfers.pointsTo_toks_range fullShare 1).2
  rw [BI.bigSep_range_succ, Finset.range_zero, bigSep_empty]
  isplitl [H1]; · iexact H1
  isplitl [H2]; · iexact H2
  iempintro

omit [FloatOps F] in
theorem join2 (c : Dev nD) (j : Fin 7) (r : Fin 3) :
    gPts (F := F) m ρ c j r (shareDrop fullShare 2) ⊢ iprop(gPts m ρ c j r (shareTokN fullShare 0) -∗ gPts m ρ c j r (shareTokN fullShare 1) -∗ gPts m ρ c j r fullShare) := by
  iintro H1 H2 H3
  unfold gPts
  iapply (Transfers.pointsTo_toks_range fullShare 2).2
  rw [BI.bigSep_range_succ, BI.bigSep_range_succ, Finset.range_zero, bigSep_empty]
  isplitl [H1]; · iexact H1
  isplitl [H3]; · iexact H3
  isplitl [H2]; · iexact H2
  iempintro

/-! ## `w` -/

def wW (c : Dev nD) (q : PosShare TreeShare) : sProp 𝕄 := ((c : Thread nD τ).loc cc0_stg1_0) ↦{q} ws m ρ c

theorem mem_w (r : Fin 3) (i : S4096x256.Idx) :
    i ∈ (wM.access (rectW r)).set ↔ off r ≤ (i (0 : Fin 2)).val ∧ (i (0 : Fin 2)).val < off r + len r := by
  rw [show (wM.access (rectW r)).set = (rectW r).set from View.set_slice_whole cc0_stg1_0 (rectW r), Rect.mem_set_unit]
  constructor
  · intro h; exact h (0 : Fin 2)
  · rintro ⟨h1, h2⟩ a
    have hb : (i (1 : Fin 2)).val < 256 := (i (1 : Fin 2)).isLt
    fin_cases a
    · exact ⟨h1, h2⟩
    · show 0 ≤ (i (1 : Fin 2)).val ∧ (i (1 : Fin 2)).val < 0 + 256; omega

omit [FloatOps F] in
theorem w_rows (c : Dev nD) (q : PosShare TreeShare) : wW (F := F) m ρ c q = iprop(wPts m ρ c 0 q ∗ wPts m ρ c 1 q ∗ wPts m ρ c 2 q) := by
  unfold wW
  rw [Ring.pointsTo_blocks (fun r : Fin 3 => (wM.access (rectW r)).set)
    (fun r r' h => Finset.disjoint_left.mpr fun i hi hi' => by
      have h1 := (mem_w r i).mp hi
      have h2 := (mem_w r' i).mp hi'
      rcases pieces_apart _ _ h with h | h <;> omega)
    (Finset.eq_univ_iff_forall.mpr fun i => by
      obtain ⟨r, h⟩ := piece_of (i (0 : Fin 2)).val (i (0 : Fin 2)).isLt
      exact Finset.mem_biUnion.mpr ⟨r, Finset.mem_univ _, (mem_w r i).mpr h⟩),
    bigSep_univ_eq_bigSepL [0, 1, 2] (by decide) (by decide)]
  rfl

omit [FloatOps F] in
theorem w_toks (c : Dev nD) : wW (F := F) m ρ c fullShare
    ⊣⊢ iprop(wW m ρ c (shareDrop fullShare 3) ∗ wW m ρ c (shareTokN fullShare 2) ∗ wW m ρ c (shareTokN fullShare 1) ∗ wW m ρ c (shareTokN fullShare 0)) := by
  unfold wW
  have h := Transfers.pointsTo_toks_range (ℓ := (c : Thread nD τ).loc cc0_stg1_0) (S := Finset.univ) (f := ws m ρ c) (Ix := Unit) (Name := ℕ) (U := UU) (Lvl := ℕ) fullShare 3
  rw [BI.bigSep_range_succ, BI.bigSep_range_succ, BI.bigSep_range_succ, Finset.range_zero, bigSep_empty] at h
  refine ⟨h.1.trans ?_, BIBase.Entails.trans ?_ h.2⟩
  · iintro ⟨H1, H2, H3, H4, -⟩
    isplitl [H1]; · iexact H1
    isplitl [H2]; · iexact H2
    isplitl [H3]; · iexact H3
    iexact H4
  · iintro ⟨H1, H2, H3, H4⟩
    isplitl [H1]; · iexact H1
    isplitl [H2]; · iexact H2
    isplitl [H3]; · iexact H3
    isplitl [H4]; · iexact H4
    iempintro

/-! ## The product buffers -/

theorem mem_rectS (j : Fin 7) (i : S7x512x256.Idx) : i ∈ (rectS j).set ↔ (i (0 : Fin 3)).val = j.val := by
  rw [Rect.mem_set_unit]
  constructor
  · intro h
    have a0 : j.val ≤ (i (0 : Fin 3)).val ∧ (i (0 : Fin 3)).val < j.val + 1 := h (0 : Fin 3)
    omega
  · intro h a
    have h1 : (i (1 : Fin 3)).val < 512 := (i (1 : Fin 3)).isLt
    have h2 : (i (2 : Fin 3)).val < 256 := (i (2 : Fin 3)).isLt
    fin_cases a
    · show j.val ≤ (i (0 : Fin 3)).val ∧ (i (0 : Fin 3)).val < j.val + 1; omega
    · show 0 ≤ (i (1 : Fin 3)).val ∧ (i (1 : Fin 3)).val < 0 + 512; omega
    · show 0 ≤ (i (2 : Fin 3)).val ∧ (i (2 : Fin 3)).val < 0 + 256; omega

theorem slots_apart (j j' : Fin 7) (h : j ≠ j') : Disjoint (rectS j).set (rectS j').set :=
  Finset.disjoint_left.mpr fun i hi hi' => h (Fin.ext (((mem_rectS j i).mp hi).symm.trans ((mem_rectS j' i).mp hi')))
theorem slot_of (i : S7x512x256.Idx) : i ∈ (rectS ⟨(i (0 : Fin 3)).val, (i (0 : Fin 3)).isLt⟩).set := (mem_rectS _ i).mpr rfl
theorem set_s (j : Fin 7) : (sM.access (rectS j)).set = (rectS j).set := View.set_slice_whole cc0_scratch1 (rectS j)
theorem set_r (j : Fin 7) : (rM.access (rectS j)).set = (rectS j).set := View.set_slice_whole cc0_scratch2 (rectS j)

omit [FloatOps F] in
theorem s_slots (c : Dev nD) (f : Buf (Elt F) ((c : Thread nD τ).loc cc0_scratch1)) :
    (((c : Thread nD τ).loc cc0_scratch1) ↦{fullShare} f : sProp 𝕄)
      = bigSepL [0, 1, 2, 3, 4, 5, 6] fun j => ((c : Thread nD τ).loc cc0_scratch1) ↦[(sM.access (rectS j)).set]{fullShare} f := by
  rw [Ring.pointsTo_blocks (fun j : Fin 7 => (sM.access (rectS j)).set) (fun j j' h => by rw [set_s, set_s]; exact slots_apart j j' h)
    (Finset.eq_univ_iff_forall.mpr fun i => Finset.mem_biUnion.mpr ⟨⟨(i (0 : Fin 3)).val, (i (0 : Fin 3)).isLt⟩, Finset.mem_univ _, by rw [set_s]; exact slot_of i⟩),
    bigSep_univ_eq_bigSepL [0, 1, 2, 3, 4, 5, 6] (by decide) (by decide)]
omit [FloatOps F] in
theorem r_slots (c : Dev nD) (f : Buf (Elt F) ((c : Thread nD τ).loc cc0_scratch2)) :
    (((c : Thread nD τ).loc cc0_scratch2) ↦{fullShare} f : sProp 𝕄)
      = bigSepL [0, 1, 4, 5, 2, 3, 6] fun j => ((c : Thread nD τ).loc cc0_scratch2) ↦[(rM.access (rectS j)).set]{fullShare} f := by
  rw [Ring.pointsTo_blocks (fun j : Fin 7 => (rM.access (rectS j)).set) (fun j j' h => by rw [set_r, set_r]; exact slots_apart j j' h)
    (Finset.eq_univ_iff_forall.mpr fun i => Finset.mem_biUnion.mpr ⟨⟨(i (0 : Fin 3)).val, (i (0 : Fin 3)).isLt⟩, Finset.mem_univ _, by rw [set_r]; exact slot_of i⟩),
    bigSep_univ_eq_bigSepL [0, 1, 4, 5, 2, 3, 6] (by decide) (by decide)]

/-- The zeroed product buffer, slot by slot. -/
theorem s_zero (c : Dev nD) :
    (((c : Thread nD τ).loc cc0_scratch1) ↦{fullShare} (k0_pay1 (F := F)) : sProp 𝕄) ⊢ bigSepL [0, 1, 2, 3, 4, 5, 6] fun j => slotP sM c j (Z j) := by
  rw [s_slots]
  refine bigSepL_mono fun j _ => ?_
  unfold slotP
  iintro H
  iexists (k0_pay1 (F := F))
  isplitr
  · ipureintro; rfl
  · iexact H

omit [FloatOps F] in
/-- The receiving product buffer as the barrier signals hand it over. -/
theorem r_give (c : Dev nD) (f : Buf (Elt F) ((c : Thread nD τ).loc cc0_scratch2)) :
    (((c : Thread nD τ).loc cc0_scratch2) ↦{fullShare} f : sProp 𝕄) ⊢ iprop(giveR c 0 ∗ giveR c 1 ∗ giveR c 2) := by
  rw [r_slots]
  refine (bigSepL_mono (Ψ := slotF rM c) fun j _ => (by unfold slotF; iintro H; iexists f; iexact H)).trans ?_
  rw [show ([0, 1, 4, 5, 2, 3, 6] : List (Fin 7)) = slotsOf 0 ++ (slotsOf 1 ++ slotsOf 2) from rfl, bigSepL_append, bigSepL_append]
  exact Entails.refl _

theorem s_join (c : Dev nD) : (bigSepL [0, 1, 2, 3, 4, 5, 6] (slotF (F := F) sM c) : sProp 𝕄) ⊢ iprop(∃ f, ((c : Thread nD τ).loc cc0_scratch1) ↦{fullShare} f) := by
  rw [← bigSep_univ_eq_bigSepL [0, 1, 2, 3, 4, 5, 6] (by decide) (by decide)]
  unfold slotF
  exact Ring.pointsTo_blocks_join_exists (ℓ := (c : Thread nD τ).loc cc0_scratch1) (fun j : Fin 7 => (sM.access (rectS j)).set) (fun j j' h => by rw [set_s, set_s]; exact slots_apart j j' h)
    (Finset.eq_univ_iff_forall.mpr fun i => Finset.mem_biUnion.mpr ⟨⟨(i (0 : Fin 3)).val, (i (0 : Fin 3)).isLt⟩, Finset.mem_univ _, by rw [set_s]; exact slot_of i⟩)
    (k0_pay1 (F := F))
theorem r_join (c : Dev nD) : (bigSepL [0, 1, 2, 3, 4, 5, 6] (slotF (F := F) rM c) : sProp 𝕄) ⊢ iprop(∃ f, ((c : Thread nD τ).loc cc0_scratch2) ↦{fullShare} f) := by
  rw [← bigSep_univ_eq_bigSepL [0, 1, 2, 3, 4, 5, 6] (by decide) (by decide)]
  unfold slotF
  exact Ring.pointsTo_blocks_join_exists (ℓ := (c : Thread nD τ).loc cc0_scratch2) (fun j : Fin 7 => (rM.access (rectS j)).set) (fun j j' h => by rw [set_r, set_r]; exact slots_apart j j' h)
    (Finset.eq_univ_iff_forall.mpr fun i => Finset.mem_biUnion.mpr ⟨⟨(i (0 : Fin 3)).val, (i (0 : Fin 3)).isLt⟩, Finset.mem_univ _, by rw [set_r]; exact slot_of i⟩)
    (k0_pay1 (F := F))

omit [FloatOps F] in
theorem slot_any (M : Memref sig .tc .vmem S7x512x256 .f32) (c : Dev nD) (j : Fin 7) (X : Vec F S1x512x256 .f32) : slotP M c j X ⊢ slotF M c j := by
  unfold slotP slotF
  iintro ⟨%f, -, H⟩
  iexists f; iexact H

/-! ## The lists -/

omit [FloatOps F] in
theorem give_dst (c : Dev nD) (d : Fin 3) (h : ∀ i ∈ copiesOf d, mask i = bmask d ∧ kd i ≠ 2) :
    giveG (F := F) (xr (bmask d) c) d ⊢ bigSepL (copiesOf d) (dstG c) := by
  unfold giveG
  refine bigSepL_mono fun i hi => ?_
  unfold dstG
  rw [if_neg (h i hi).2, (h i hi).1]

omit [FloatOps F] in
/-- The pieces the three neighbours handed over are the destinations of all copies. -/
theorem dsts (c : Dev nD) : iprop(giveG (F := F) (xr (bmask 0) c) 0 ∗ giveG (xr (bmask 1) c) 1 ∗ giveG (xr (bmask 2) c) 2) ⊢ bigSepL order (dstG c) := by
  rw [TalkSites.bigSepL_perm (l := order) (l' := copiesOf 0 ++ (copiesOf 1 ++ (copiesOf 2 ++ [21, 22, 23, 24, 25, 26, 27]))) (by decide) (by decide),
    bigSepL_append, bigSepL_append, bigSepL_append]
  iintro ⟨H0, H1, H2⟩
  isplitl [H0]; · iapply (give_dst c 0 (by decide)); iexact H0
  isplitl [H1]; · iapply (give_dst c 1 (by decide)); iexact H1
  isplitl [H2]; · iapply (give_dst c 2 (by decide)); iexact H2
  iapply (show iprop(emp ∗ emp ∗ emp ∗ emp ∗ emp ∗ emp ∗ emp) ⊢ bigSepL [21, 22, 23, 24, 25, 26, 27] (dstG (F := F) c) from Entails.refl _)
  isplitl; · iempintro
  isplitl; · iempintro
  isplitl; · iempintro
  isplitl; · iempintro
  isplitl; · iempintro
  isplitl; · iempintro
  iempintro

omit [FloatOps F] in
theorem emps (l : List (Fin 28)) (Φ : Fin 28 → sProp 𝕄) (h : ∀ i ∈ l, Φ i = iprop(emp)) : (iprop(emp) : sProp 𝕄) ⊢ bigSepL l Φ := by
  induction l with
  | nil => exact Entails.refl _
  | cons i l ih =>
    rw [bigSepL_cons', h i List.mem_cons_self]
    iintro -
    isplitl
    · iempintro
    · iapply (ih fun k hk => h k (List.mem_cons_of_mem _ hk)); iempintro

omit [FloatOps F] in
theorem srcs_2 (c : Dev nD) : iprop(wPts (F := F) m ρ c 0 (shareTokN fullShare 2) ∗ wPts m ρ c 1 (shareTokN fullShare 2) ∗ wPts m ρ c 2 (shareTokN fullShare 2)) = bigSepL [9, 13, 17] (srcW m ρ c) := rfl
omit [FloatOps F] in
theorem srcs_1 (c : Dev nD) : iprop(wPts (F := F) m ρ c 0 (shareTokN fullShare 1) ∗ wPts m ρ c 1 (shareTokN fullShare 1) ∗ wPts m ρ c 2 (shareTokN fullShare 1)) = bigSepL [3, 5, 7] (srcW m ρ c) := rfl
omit [FloatOps F] in
theorem srcs_0 (c : Dev nD) : iprop(wPts (F := F) m ρ c 0 (shareTokN fullShare 0) ∗ wPts m ρ c 1 (shareTokN fullShare 0) ∗ wPts m ρ c 2 (shareTokN fullShare 0)) = bigSepL [0, 1, 2] (srcW m ρ c) := rfl

omit [FloatOps F] in
/-- The three read shares of `w`, row piece by row piece, are the sources of the copies from `w`. -/
theorem srcs (c : Dev nD) : iprop(wW (F := F) m ρ c (shareTokN fullShare 2) ∗ wW m ρ c (shareTokN fullShare 1) ∗ wW m ρ c (shareTokN fullShare 0)) ⊢ bigSepL order (srcW m ρ c) := by
  rw [TalkSites.bigSepL_perm (l := order) (l' := [9, 13, 17] ++ ([3, 5, 7] ++ ([0, 1, 2] ++ [4, 10, 6, 14, 8, 18, 11, 12, 15, 16, 19, 20, 24, 21, 23, 27, 25, 22, 26]))) (by decide) (by decide),
    bigSepL_append, bigSepL_append, bigSepL_append, w_rows, w_rows, w_rows]
  iintro ⟨H2, H1, H0⟩
  isplitl [H2]; · iapply (Entails.of_eq (srcs_2 m ρ c)); iexact H2
  isplitl [H1]; · iapply (Entails.of_eq (srcs_1 m ρ c)); iexact H1
  isplitl [H0]; · iapply (Entails.of_eq (srcs_0 m ρ c)); iexact H0
  iapply (emps (F := F) _ (srcW m ρ c) (by
    intro i hi
    unfold srcW
    rw [if_neg]
    revert i hi; decide))
  iempintro

omit [FloatOps F] in
theorem needs (c : Dev nD) : iprop(bigSepL order (perm (F := F) c) ∗ bigSepL order (srcW m ρ c) ∗ bigSepL order (dstG c)) ⊢ bigSepL order (need m ρ c) := by
  rw [bigSepL_both, bigSepL_both]
  exact Entails.refl _

omit [FloatOps F] in
/-- Every copy started: the send waits are ready. -/
theorem sends_ready (c : Dev nD) : iprop(bigSepL sorder (fun i => (atPos ER (sendCell c i) 0 ∅ 0 : sProp 𝕄)) ∗ bigSepL order.reverse (scred c)) ⊢ bigSepL sorder (sready c) := by
  rw [TalkSites.bigSepL_perm (l := order.reverse) (l' := sorder) (by decide) (by decide), bigSepL_both]
  exact Entails.refl _

omit [FloatOps F] in
/-- What the send waits give back: `w`'s shares, the forwarded pieces' shares, the product slots. -/
theorem pays_back (c : Dev nD) : (bigSepL ([27, 26, 25, 24, 23, 22, 21, 20, 19, 18, 17, 8, 7, 2, 16, 15, 14, 13, 6, 5, 1, 12, 11, 10, 9, 4, 3, 0] : List (Fin 28)) (sendPay (F := F) m ρ c) : sProp 𝕄)
    ⊢ iprop((wW m ρ c (shareTokN fullShare 2) ∗ wW m ρ c (shareTokN fullShare 1) ∗ wW m ρ c (shareTokN fullShare 0))
        ∗ (gPts m ρ c 0 0 (shareTokN fullShare 0) ∗ gPts m ρ c 0 0 (shareTokN fullShare 1) ∗ gPts m ρ c 2 1 (shareTokN fullShare 0) ∗ gPts m ρ c 2 1 (shareTokN fullShare 1)
          ∗ gPts m ρ c 3 2 (shareTokN fullShare 0) ∗ gPts m ρ c 3 2 (shareTokN fullShare 1)
          ∗ gPts m ρ c 2 0 (shareTokN fullShare 0) ∗ gPts m ρ c 1 0 (shareTokN fullShare 0) ∗ gPts m ρ c 3 1 (shareTokN fullShare 0) ∗ gPts m ρ c 6 1 (shareTokN fullShare 0)
          ∗ gPts m ρ c 0 2 (shareTokN fullShare 0) ∗ gPts m ρ c 4 2 (shareTokN fullShare 0))
        ∗ bigSepL [0, 1, 2, 3, 4, 5, 6] (slotF sM c)) := by
  rw [TalkSites.bigSepL_perm (l' := ([9, 13, 17] ++ ([3, 5, 7] ++ [0, 1, 2])) ++ ([4, 10, 6, 14, 8, 18, 11, 12, 15, 16, 19, 20] ++ [21, 22, 23, 24, 25, 26, 27])) (by decide) (by decide),
    bigSepL_append, bigSepL_append, bigSepL_append, bigSepL_append, w_rows, w_rows, w_rows]
  exact Entails.refl _

end Cert.KernelIdeal.Xor

end
-- ==== Proof.KiChunkB.lean ====
/-
The first forwards: parts 6 to 12 of the body.
-/
module

public import proofs.«01_k».proof.Proof.KiOps

@[expose] public section

noncomputable section

namespace Cert.KernelIdeal.Xor

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 57 → ℕ)

set_option maxRecDepth 65536 in
theorem chunkB (c : Dev nD) {v14 v15 v16 v17 v18 v19 v20 v21 v23 v24 v25 v27 v28 v29 v31 : BitVec 32} {hx hw ho hg hs hr}
    {α : Type} {Q : α → sProp 𝕄} {k : PUnit → Prog (TpuEff nD τ sig (Elt F) Λ₀ .tc) α} :
    St m ρ K c [4, 10, 6, 14, 8, 18, 11, 12, 15, 16, 19, 20, 24, 21, 23, 27, 25, 22, 26] [17, 13, 9, 7, 5, 3, 2, 1, 0] [0, 1, 2, 3, 4, 5, 6, 7, 8, 9, 13, 17, 10, 14, 18, 11, 15, 19, 12, 16, 20, 24, 21, 23, 27, 25, 22, 26] []
      ⊢ iprop(xPts m ρ c
        -∗ slotP sM c 0 (Z 0)
        -∗ slotP sM c 2 (Z 2)
        -∗ slotP sM c 3 (Z 3)
        -∗ (St m ρ K c [19, 20, 24, 21, 23, 27, 25, 22, 26] [16, 15, 12, 11, 18, 8, 14, 6, 10, 4, 17, 13, 9, 7, 5, 3, 2, 1, 0] [8, 9, 13, 17, 10, 14, 18, 11, 15, 19, 12, 16, 20, 24, 21, 23, 27, 25, 22, 26] [7, 6, 5, 4, 3, 2, 1, 0]
            -∗ xPts m ρ c
            -∗ slotP sM c 0 (acc m ρ c 0 0 (Z 0))
            -∗ slotP sM c 2 (acc m ρ c 2 1 (Z 2))
            -∗ slotP sM c 3 (acc m ρ c 3 2 (Z 3))
            -∗ gPts m ρ c 0 0 (shareDrop fullShare 2)
            -∗ gPts m ρ c 2 1 (shareDrop fullShare 2)
            -∗ gPts m ρ c 3 2 (shareDrop fullShare 2)
            -∗ gPts m ρ c 2 0 (shareDrop fullShare 1)
            -∗ gPts m ρ c 1 0 (shareDrop fullShare 1)
            -∗ gPts m ρ c 3 1 (shareDrop fullShare 1)
            -∗ gPts m ρ c 6 1 (shareDrop fullShare 1)
            -∗ gPts m ρ c 0 2 (shareDrop fullShare 1)
            -∗ gPts m ρ c 0 2 (shareTokN fullShare 0)
            -∗ slotF rM (xr 2 c) 1
            -∗ slotF rM (xr 7 c) 6
            -∗ slotF rM (xr 5 c) 4
            -∗ slotF rM (xr 6 c) 5
            -∗ WP c (k ⟨⟩) Q)
        -∗ WP c (do
            k0_part6 xM hx wM hw oM ho gM hg sM hs rM hr cc0_scratch3 cc0_scratch4 cc0_scratch5 cc0_scratch6 c v14 v17 v23
            k0_part7 xM hx wM hw oM ho gM hg sM hs rM hr cc0_scratch3 cc0_scratch4 cc0_scratch5 cc0_scratch6 c v15 v19 v27
            let v222 : FVec F S512x256 .f32 ← k0_part8 xM hx wM hw oM ho gM hg sM hs rM hr cc0_scratch3 cc0_scratch4 cc0_scratch5 cc0_scratch6 c v21 v31
            let v248 : BitVec 32 ← k0_part9 xM hx wM hw oM ho gM hg sM hs rM hr cc0_scratch3 cc0_scratch4 cc0_scratch5 cc0_scratch6 v16 v222
            k0_part10 xM hx wM hw oM ho gM hg sM hs rM hr cc0_scratch3 cc0_scratch4 cc0_scratch5 cc0_scratch6 c v17 v24 v25 v248
            k0_part11 xM hx wM hw oM ho gM hg sM hs rM hr cc0_scratch3 cc0_scratch4 cc0_scratch5 cc0_scratch6 c v18 v19 v28
            let u ← k0_part12 xM hx wM hw oM ho gM hg sM hs rM hr cc0_scratch3 cc0_scratch4 cc0_scratch5 cc0_scratch6 c v20 v21 v29
            k u) Q) := by
  simp only [k0_part6_eq_skeleton, k0_part7_eq_skeleton, k0_part8_eq_skeleton, k0_part9_eq_skeleton, k0_part10_eq_skeleton, k0_part11_eq_skeleton, k0_part12_eq_skeleton]
  unfold k0_part6_skel k0_part7_skel k0_part8_skel k0_part9_skel k0_part10_skel k0_part11_skel k0_part12_skel
  simp only [Prog.lift, Prog.bind_op, Prog.bind_ret, Prog.pure_eq_ret]
  iintro HS Hx S0 S2 S3 Hk
  iapply (recv_g m ρ K 0 c 0 0 rfl rfl (by decide) (by decide) rfl rfl) $$ HS
  iintro HS ⟨G00, -⟩
  ihave ⟨G00, TG000, TG001⟩ := (split2 m ρ c 0 0) $$ G00
  iapply (start_g0 m ρ K 4 c _ 0 0 0 rfl rfl rfl rfl (by decide) (dev13 c) rfl rfl) $$ HS TG000
  iintro HS
  iapply (start_g0 m ρ K 10 c _ 0 0 1 rfl rfl rfl rfl (by decide) (dev14 c) rfl rfl) $$ HS TG001
  iintro HS
  iapply (recv_g m ρ K 1 c 2 1 rfl rfl (by decide) (by decide) rfl rfl) $$ HS
  iintro HS ⟨G21, HE⟩
  ihave ⟨G21, TG210, TG211⟩ := (split2 m ρ c 2 1) $$ G21
  ihave ⟨E21, E76, E25⟩ := (Entails.of_eq (extra_1 c)) $$ HE
  iapply (start_g6 m ρ K c _ (dev15 c) rfl rfl) $$ HS TG210 E25
  iintro HS
  iapply (start_g0 m ρ K 14 c _ 2 1 1 rfl rfl rfl rfl (by decide) (dev16 c) rfl rfl) $$ HS TG211
  iintro HS
  iapply (recv_g m ρ K 2 c 3 2 rfl rfl (by decide) (by decide) rfl rfl) $$ HS
  iintro HS ⟨G32, HE⟩
  ihave ⟨G32, TG320, TG321⟩ := (split2 m ρ c 3 2) $$ G32
  ihave E54 := (Entails.of_eq (extra_2 c)) $$ HE
  iapply (start_g0 m ρ K 8 c _ 3 2 0 rfl rfl rfl rfl (by decide) (dev17 c) rfl rfl) $$ HS TG320
  iintro HS
  iapply (start_g0 m ρ K 18 c _ 3 2 1 rfl rfl rfl rfl (by decide) (dev18 c) rfl rfl) $$ HS TG321
  iintro HS
  iapply (acc_step m ρ 0 0 _ c _ rfl) $$ S0 Hx G00
  iintro S0 Hx G00
  iapply (acc_step m ρ 2 1 _ c _ rfl) $$ S2 Hx G21
  iintro S2 Hx G21
  iapply (acc_step m ρ 3 2 _ c _ rfl) $$ S3 Hx G32
  iintro S3 Hx G32
  iapply (recv_g m ρ K 3 c 2 0 rfl rfl (by decide) (by decide) rfl rfl) $$ HS
  iintro HS ⟨G20, -⟩
  ihave ⟨G20, TG200⟩ := (split1 m ρ c 2 0) $$ G20
  iapply (recv_g m ρ K 4 c 1 0 rfl rfl (by decide) (by decide) rfl rfl) $$ HS
  iintro HS ⟨G10, -⟩
  ihave ⟨G10, TG100⟩ := (split1 m ρ c 1 0) $$ G10
  iapply (start_g0 m ρ K 11 c _ 2 0 0 rfl rfl rfl rfl (by decide) (dev19 c) rfl rfl) $$ HS TG200
  iintro HS
  iapply (start_g0 m ρ K 12 c _ 1 0 0 rfl rfl rfl rfl (by decide) (dev20 c) rfl rfl) $$ HS TG100
  iintro HS
  iapply (recv_g m ρ K 5 c 3 1 rfl rfl (by decide) (by decide) rfl rfl) $$ HS
  iintro HS ⟨G31, -⟩
  ihave ⟨G31, TG310⟩ := (split1 m ρ c 3 1) $$ G31
  iapply (recv_g m ρ K 6 c 6 1 rfl rfl (by decide) (by decide) rfl rfl) $$ HS
  iintro HS ⟨G61, HE⟩
  ihave ⟨G61, TG610⟩ := (split1 m ρ c 6 1) $$ G61
  ihave E65 := (Entails.of_eq (extra_6 c)) $$ HE
  iapply (start_g0 m ρ K 15 c _ 3 1 0 rfl rfl rfl rfl (by decide) (dev21 c) rfl rfl) $$ HS TG310
  iintro HS
  iapply (start_g0 m ρ K 16 c _ 6 1 0 rfl rfl rfl rfl (by decide) (dev22 c) rfl rfl) $$ HS TG610
  iintro HS
  iapply (recv_g m ρ K 7 c 0 2 rfl rfl (by decide) (by decide) rfl rfl) $$ HS
  iintro HS ⟨G02, -⟩
  ihave ⟨G02, TG020⟩ := (split1 m ρ c 0 2) $$ G02
  iapply Hk $$ HS Hx S0 S2 S3 G00 G21 G32 G20 G10 G31 G61 G02 TG020 E21 E76 E54 E65

end Cert.KernelIdeal.Xor

end
-- ==== Proof.KiChunkC.lean ====
/-
The last forwards and the first two finished products: parts 13 to 18 of the body.
-/
module

public import proofs.«01_k».proof.Proof.KiOps

@[expose] public section

noncomputable section

namespace Cert.KernelIdeal.Xor

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 57 → ℕ)

set_option maxRecDepth 65536 in
theorem chunkC (c : Dev nD) {v22 v26 v30 v32 v33 v34 v37 : BitVec 32} {hx hw ho hg hs hr}
    {α : Type} {Q : α → sProp 𝕄} {k : PUnit → Prog (TpuEff nD τ sig (Elt F) Λ₀ .tc) α} :
    St m ρ K c [19, 20, 24, 21, 23, 27, 25, 22, 26] [16, 15, 12, 11, 18, 8, 14, 6, 10, 4, 17, 13, 9, 7, 5, 3, 2, 1, 0] [8, 9, 13, 17, 10, 14, 18, 11, 15, 19, 12, 16, 20, 24, 21, 23, 27, 25, 22, 26] [7, 6, 5, 4, 3, 2, 1, 0]
      ⊢ iprop(xPts m ρ c
        -∗ slotP sM c 0 (acc m ρ c 0 0 (Z 0))
        -∗ slotP sM c 1 (Z 1)
        -∗ slotP sM c 2 (acc m ρ c 2 1 (Z 2))
        -∗ slotP sM c 3 (acc m ρ c 3 2 (Z 3))
        -∗ slotP sM c 4 (Z 4)
        -∗ slotP sM c 6 (Z 6)
        -∗ gPts m ρ c 2 0 (shareDrop fullShare 1)
        -∗ gPts m ρ c 1 0 (shareDrop fullShare 1)
        -∗ gPts m ρ c 3 1 (shareDrop fullShare 1)
        -∗ gPts m ρ c 6 1 (shareDrop fullShare 1)
        -∗ gPts m ρ c 0 2 (shareDrop fullShare 1)
        -∗ gPts m ρ c 0 2 (shareTokN fullShare 0)
        -∗ slotF rM (xr 1 c) 0
        -∗ slotF rM (xr 4 c) 3
        -∗ (St m ρ K c [23, 27, 25, 22, 26] [21, 24, 20, 19, 16, 15, 12, 11, 18, 8, 14, 6, 10, 4, 17, 13, 9, 7, 5, 3, 2, 1, 0] [10, 14, 18, 11, 15, 19, 12, 16, 20, 24, 21, 23, 27, 25, 22, 26] [17, 13, 9, 8, 7, 6, 5, 4, 3, 2, 1, 0]
            -∗ xPts m ρ c
            -∗ slotP sM c 1 (acc m ρ c 1 0 (Z 1))
            -∗ slotP sM c 2 (acc m ρ c 2 2 (acc m ρ c 2 0 (acc m ρ c 2 1 (Z 2))))
            -∗ slotP sM c 4 (acc m ρ c 4 2 (Z 4))
            -∗ slotP sM c 6 (acc m ρ c 6 1 (Z 6))
            -∗ gPts m ρ c 2 0 (shareDrop fullShare 1)
            -∗ gPts m ρ c 1 0 (shareDrop fullShare 1)
            -∗ gPts m ρ c 3 1 (shareDrop fullShare 1)
            -∗ gPts m ρ c 6 1 (shareDrop fullShare 1)
            -∗ gPts m ρ c 0 2 (shareDrop fullShare 1)
            -∗ gPts m ρ c 4 2 (shareDrop fullShare 1)
            -∗ gPts m ρ c 3 0 fullShare
            -∗ gPts m ρ c 0 1 fullShare
            -∗ gPts m ρ c 2 2 fullShare
            -∗ WP c (k ⟨⟩) Q)
        -∗ WP c (do
            let ⟨v354, v356⟩ : Σ' (v354 : FVec F S512x256 .f32), FVec F S512x1368 .f32 ← k0_part13 xM hx wM hw oM ho gM hg sM hs rM hr cc0_scratch3 cc0_scratch4 cc0_scratch5 cc0_scratch6 c v32 v33
            let v385 : FVec F S1x512x256 .f32 ← k0_part14 xM hx wM hw oM ho gM hg sM hs rM hr cc0_scratch3 cc0_scratch4 cc0_scratch5 cc0_scratch6 v354 v356
            let ⟨v409, v411⟩ : Σ' (v409 : FVec F S512x256 .f32), FVec F S512x1360 .f32 ← k0_part15 xM hx wM hw oM ho gM hg sM hs rM hr cc0_scratch3 cc0_scratch4 cc0_scratch5 cc0_scratch6 v385
            let v437 : BitVec 32 ← k0_part16 xM hx wM hw oM ho gM hg sM hs rM hr cc0_scratch3 cc0_scratch4 cc0_scratch5 cc0_scratch6 v22 v37 v409 v411
            k0_part17 xM hx wM hw oM ho gM hg sM hs rM hr cc0_scratch3 cc0_scratch4 cc0_scratch5 cc0_scratch6 c v26 v437
            let u ← k0_part18 xM hx wM hw oM ho gM hg sM hs rM hr cc0_scratch3 cc0_scratch4 cc0_scratch5 cc0_scratch6 c v30 v34
            k u) Q) := by
  simp only [k0_part13_eq_skeleton, k0_part14_eq_skeleton, k0_part15_eq_skeleton, k0_part16_eq_skeleton, k0_part17_eq_skeleton, k0_part18_eq_skeleton]
  unfold k0_part13_skel k0_part14_skel k0_part15_skel k0_part16_skel k0_part17_skel k0_part18_skel
  simp only [Prog.lift, Prog.bind_op, Prog.bind_ret, Prog.pure_eq_ret]
  iintro HS Hx S0 S1 S2 S3 S4 S6 G20 G10 G31 G61 G02 TG020 R0 R3 Hk
  iapply (recv_g m ρ K 8 c 4 2 rfl rfl (by decide) (by decide) rfl rfl) $$ HS
  iintro HS ⟨G42, -⟩
  ihave ⟨G42, TG420⟩ := (split1 m ρ c 4 2) $$ G42
  iapply (start_g0 m ρ K 19 c _ 0 2 0 rfl rfl rfl rfl (by decide) (dev23 c) rfl rfl) $$ HS TG020
  iintro HS
  iapply (start_g0 m ρ K 20 c _ 4 2 0 rfl rfl rfl rfl (by decide) (dev24 c) rfl rfl) $$ HS TG420
  iintro HS
  iapply (acc_step m ρ 2 0 _ c _ rfl) $$ S2 Hx G20
  iintro S2 Hx G20
  iapply (acc_step m ρ 1 0 _ c _ rfl) $$ S1 Hx G10
  iintro S1 Hx G10
  iapply (acc_step m ρ 3 1 _ c _ rfl) $$ S3 Hx G31
  iintro S3 Hx G31
  iapply (acc_step m ρ 6 1 _ c _ rfl) $$ S6 Hx G61
  iintro S6 Hx G61
  iapply (acc_step m ρ 0 2 _ c _ rfl) $$ S0 Hx G02
  iintro S0 Hx G02
  iapply (acc_step m ρ 4 2 _ c _ rfl) $$ S4 Hx G42
  iintro S4 Hx G42
  iapply (recv_g m ρ K 9 c 3 0 rfl rfl (by decide) (by decide) rfl rfl) $$ HS
  iintro HS ⟨G30, -⟩
  iapply (acc_step m ρ 3 0 _ c _ rfl) $$ S3 Hx G30
  iintro S3 Hx G30
  iapply (start_p m ρ K 24 c _ 3 4 (acc m ρ c 3 0 (acc m ρ c 3 1 (acc m ρ c 3 2 (Z 3)))) rfl rfl rfl rfl (dev25 c) rfl rfl) $$ HS S3 R3
  iintro HS
  iapply (recv_g m ρ K 13 c 0 1 rfl rfl (by decide) (by decide) rfl rfl) $$ HS
  iintro HS ⟨G01, -⟩
  iapply (acc_step m ρ 0 1 _ c _ rfl) $$ S0 Hx G01
  iintro S0 Hx G01
  iapply (start_p m ρ K 21 c _ 0 1 (acc m ρ c 0 1 (acc m ρ c 0 2 (acc m ρ c 0 0 (Z 0)))) rfl rfl rfl rfl (dev26 c) rfl rfl) $$ HS S0 R0
  iintro HS
  iapply (recv_g m ρ K 17 c 2 2 rfl rfl (by decide) (by decide) rfl rfl) $$ HS
  iintro HS ⟨G22, -⟩
  iapply (acc_step m ρ 2 2 _ c _ rfl) $$ S2 Hx G22
  iintro S2 Hx G22
  iapply Hk $$ HS Hx S1 S2 S4 S6 G20 G10 G31 G61 G02 G42 G30 G01 G22

end Cert.KernelIdeal.Xor

end
-- ==== Proof.KiChunkD.lean ====
/-
Four more finished products: parts 19 to 24 of the body.
-/
module

public import proofs.«01_k».proof.Proof.KiOps

@[expose] public section

noncomputable section

namespace Cert.KernelIdeal.Xor

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 57 → ℕ)

set_option maxRecDepth 65536 in
theorem chunkD (c : Dev nD) {v23 v24 v25 v27 v28 v31 v32 v35 v36 v38 v40 : BitVec 32} {hx hw ho hg hs hr}
    {α : Type} {Q : α → sProp 𝕄} {k : PUnit → Prog (TpuEff nD τ sig (Elt F) Λ₀ .tc) α} :
    St m ρ K c [23, 27, 25, 22, 26] [21, 24, 20, 19, 16, 15, 12, 11, 18, 8, 14, 6, 10, 4, 17, 13, 9, 7, 5, 3, 2, 1, 0] [10, 14, 18, 11, 15, 19, 12, 16, 20, 24, 21, 23, 27, 25, 22, 26] [17, 13, 9, 8, 7, 6, 5, 4, 3, 2, 1, 0]
      ⊢ iprop(xPts m ρ c
        -∗ slotP sM c 1 (acc m ρ c 1 0 (Z 1))
        -∗ slotP sM c 2 (acc m ρ c 2 2 (acc m ρ c 2 0 (acc m ρ c 2 1 (Z 2))))
        -∗ slotP sM c 4 (acc m ρ c 4 2 (Z 4))
        -∗ slotP sM c 6 (acc m ρ c 6 1 (Z 6))
        -∗ slotF rM (xr 3 c) 2
        -∗ slotF rM (xr 7 c) 6
        -∗ slotF rM (xr 5 c) 4
        -∗ slotF rM (xr 2 c) 1
        -∗ (St m ρ K c [26] [22, 25, 27, 23, 21, 24, 20, 19, 16, 15, 12, 11, 18, 8, 14, 6, 10, 4, 17, 13, 9, 7, 5, 3, 2, 1, 0] [16, 20, 24, 21, 23, 27, 25, 22, 26] [12, 19, 15, 11, 18, 14, 10, 17, 13, 9, 8, 7, 6, 5, 4, 3, 2, 1, 0]
            -∗ xPts m ρ c
            -∗ gPts m ρ c 4 0 fullShare
            -∗ gPts m ρ c 1 1 fullShare
            -∗ gPts m ρ c 6 2 fullShare
            -∗ gPts m ρ c 6 0 fullShare
            -∗ gPts m ρ c 4 1 fullShare
            -∗ gPts m ρ c 1 2 fullShare
            -∗ gPts m ρ c 5 0 fullShare
            -∗ WP c (k ⟨⟩) Q)
        -∗ WP c (do
            let v518 : FVec F S512x256 .f32 ← k0_part19 xM hx wM hw oM ho gM hg sM hs rM hr cc0_scratch3 cc0_scratch4 cc0_scratch5 cc0_scratch6 c v23 v36
            k0_part20 xM hx wM hw oM ho gM hg sM hs rM hr cc0_scratch3 cc0_scratch4 cc0_scratch5 cc0_scratch6 v27 v31 v518
            let ⟨v569, v571, v572⟩ : Σ' (v569 : FVec F S512x256 .f32) (v571 : FVec F S512x1368 .f32), Vec F S1x1368x256 .f32 ← k0_part21 xM hx wM hw oM ho gM hg sM hs rM hr cc0_scratch3 cc0_scratch4 cc0_scratch5 cc0_scratch6 v24
            let ⟨v598, v600⟩ : Σ' (v598 : FVec F S512x256 .f32), FVec F S512x1368 .f32 ← k0_part22 xM hx wM hw oM ho gM hg sM hs rM hr cc0_scratch3 cc0_scratch4 cc0_scratch5 cc0_scratch6 c v28 v40 v569 v571 v572
            let v627 : FVec F S512x256 .f32 ← k0_part23 xM hx wM hw oM ho gM hg sM hs rM hr cc0_scratch3 cc0_scratch4 cc0_scratch5 cc0_scratch6 c v32 v38 v598 v600
            let u ← k0_part24 xM hx wM hw oM ho gM hg sM hs rM hr cc0_scratch3 cc0_scratch4 cc0_scratch5 cc0_scratch6 c v25 v35 v627
            k u) Q) := by
  simp only [k0_part19_eq_skeleton, k0_part20_eq_skeleton, k0_part21_eq_skeleton, k0_part22_eq_skeleton, k0_part23_eq_skeleton, k0_part24_eq_skeleton]
  unfold k0_part19_skel k0_part20_skel k0_part21_skel k0_part22_skel k0_part23_skel k0_part24_skel
  simp only [Prog.lift, Prog.bind_op, Prog.bind_ret, Prog.pure_eq_ret]
  iintro HS Hx S1 S2 S4 S6 R2 E76 E54 E21 Hk
  iapply (start_p m ρ K 23 c _ 2 3 (acc m ρ c 2 2 (acc m ρ c 2 0 (acc m ρ c 2 1 (Z 2)))) rfl rfl rfl rfl (dev27 c) rfl rfl) $$ HS S2 R2
  iintro HS
  iapply (recv_g m ρ K 10 c 4 0 rfl rfl (by decide) (by decide) rfl rfl) $$ HS
  iintro HS ⟨G40, -⟩
  iapply (acc_step m ρ 4 0 _ c _ rfl) $$ S4 Hx G40
  iintro S4 Hx G40
  iapply (recv_g m ρ K 14 c 1 1 rfl rfl (by decide) (by decide) rfl rfl) $$ HS
  iintro HS ⟨G11, -⟩
  iapply (acc_step m ρ 1 1 _ c _ rfl) $$ S1 Hx G11
  iintro S1 Hx G11
  iapply (recv_g m ρ K 18 c 6 2 rfl rfl (by decide) (by decide) rfl rfl) $$ HS
  iintro HS ⟨G62, -⟩
  iapply (acc_step m ρ 6 2 _ c _ rfl) $$ S6 Hx G62
  iintro S6 Hx G62
  iapply (recv_g m ρ K 11 c 6 0 rfl rfl (by decide) (by decide) rfl rfl) $$ HS
  iintro HS ⟨G60, -⟩
  iapply (acc_step m ρ 6 0 _ c _ rfl) $$ S6 Hx G60
  iintro S6 Hx G60
  iapply (start_p m ρ K 27 c _ 6 7 (acc m ρ c 6 0 (acc m ρ c 6 2 (acc m ρ c 6 1 (Z 6)))) rfl rfl rfl rfl (dev28 c) rfl rfl) $$ HS S6 E76
  iintro HS
  iapply (recv_g m ρ K 15 c 4 1 rfl rfl (by decide) (by decide) rfl rfl) $$ HS
  iintro HS ⟨G41, -⟩
  iapply (acc_step m ρ 4 1 _ c _ rfl) $$ S4 Hx G41
  iintro S4 Hx G41
  iapply (start_p m ρ K 25 c _ 4 5 (acc m ρ c 4 1 (acc m ρ c 4 0 (acc m ρ c 4 2 (Z 4)))) rfl rfl rfl rfl (dev29 c) rfl rfl) $$ HS S4 E54
  iintro HS
  iapply (recv_g m ρ K 19 c 1 2 rfl rfl (by decide) (by decide) rfl rfl) $$ HS
  iintro HS ⟨G12, -⟩
  iapply (acc_step m ρ 1 2 _ c _ rfl) $$ S1 Hx G12
  iintro S1 Hx G12
  iapply (start_p m ρ K 22 c _ 1 2 (acc m ρ c 1 2 (acc m ρ c 1 1 (acc m ρ c 1 0 (Z 1)))) rfl rfl rfl rfl (dev30 c) rfl rfl) $$ HS S1 E21
  iintro HS
  iapply (recv_g m ρ K 12 c 5 0 rfl rfl (by decide) (by decide) rfl rfl) $$ HS
  iintro HS ⟨G50, -⟩
  iapply Hk $$ HS Hx G40 G11 G62 G60 G41 G12 G50

end Cert.KernelIdeal.Xor

end
-- ==== Proof.KiChunkE.lean ====
/-
The last product, and the results as they arrive: parts 25 to 30 of the body.
-/
module

public import proofs.«01_k».proof.Proof.KiOps

@[expose] public section

noncomputable section

namespace Cert.KernelIdeal.Xor

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 57 → ℕ)

set_option maxRecDepth 65536 in
theorem chunkE (c : Dev nD) {v2 v29 v33 v34 v35 v36 v37 v38 v39 v40 : BitVec 32} {hx hw ho hg hs hr}
    {α : Type} {Q : α → sProp 𝕄} {k : PUnit → Prog (TpuEff nD τ sig (Elt F) Λ₀ .tc) α} :
    St m ρ K c [26] [22, 25, 27, 23, 21, 24, 20, 19, 16, 15, 12, 11, 18, 8, 14, 6, 10, 4, 17, 13, 9, 7, 5, 3, 2, 1, 0] [16, 20, 24, 21, 23, 27, 25, 22, 26] [12, 19, 15, 11, 18, 14, 10, 17, 13, 9, 8, 7, 6, 5, 4, 3, 2, 1, 0]
      ⊢ iprop(xPts m ρ c
        -∗ slotP sM c 5 (Z 5)
        -∗ gPts m ρ c 5 0 fullShare
        -∗ slotF rM (xr 6 c) 5
        -∗ outSt m ρ c [0]
        -∗ (St m ρ K c [] [26, 22, 25, 27, 23, 21, 24, 20, 19, 16, 15, 12, 11, 18, 8, 14, 6, 10, 4, 17, 13, 9, 7, 5, 3, 2, 1, 0] [] [26, 22, 25, 27, 23, 21, 24, 20, 16, 12, 19, 15, 11, 18, 14, 10, 17, 13, 9, 8, 7, 6, 5, 4, 3, 2, 1, 0]
            -∗ xPts m ρ c
            -∗ gPts m ρ c 5 0 fullShare
            -∗ gPts m ρ c 5 1 fullShare
            -∗ gPts m ρ c 5 2 fullShare
            -∗ slotP rM c 0 (Xd m ρ (xr (Fin.succ 0) c) 0)
            -∗ slotP rM c 1 (Xd m ρ (xr (Fin.succ 1) c) 1)
            -∗ slotP rM c 2 (Xd m ρ (xr (Fin.succ 2) c) 2)
            -∗ slotP rM c 3 (Xd m ρ (xr (Fin.succ 3) c) 3)
            -∗ slotP rM c 4 (Xd m ρ (xr (Fin.succ 4) c) 4)
            -∗ slotP rM c 5 (Xd m ρ (xr (Fin.succ 5) c) 5)
            -∗ slotP rM c 6 (Xd m ρ (xr (Fin.succ 6) c) 6)
            -∗ outSt m ρ c [Fin.succ 5, Fin.succ 1, Fin.succ 4, Fin.succ 6, Fin.succ 2, Fin.succ 0, Fin.succ 3, 0]
            -∗ WP c (k ⟨⟩) Q)
        -∗ WP c (do
            let v681 : FVec F S512x256 .f32 ← k0_part25 xM hx wM hw oM ho gM hg sM hs rM hr cc0_scratch3 cc0_scratch4 cc0_scratch5 cc0_scratch6 v29
            k0_part26 xM hx wM hw oM ho gM hg sM hs rM hr cc0_scratch3 cc0_scratch4 cc0_scratch5 cc0_scratch6 v33 v39 v681
            k0_part27 xM hx wM hw oM ho gM hg sM hs rM hr cc0_scratch3 cc0_scratch4 cc0_scratch5 cc0_scratch6 c v2 v34 v37
            k0_part28 xM hx wM hw oM ho gM hg sM hs rM hr cc0_scratch3 cc0_scratch4 cc0_scratch5 cc0_scratch6 c v2 v36 v40
            k0_part29 xM hx wM hw oM ho gM hg sM hs rM hr cc0_scratch3 cc0_scratch4 cc0_scratch5 cc0_scratch6 c v2 v35 v38
            let u ← k0_part30 xM hx wM hw oM ho gM hg sM hs rM hr cc0_scratch3 cc0_scratch4 cc0_scratch5 cc0_scratch6 c v2 v39
            k u) Q) := by
  simp only [k0_part25_eq_skeleton, k0_part26_eq_skeleton, k0_part27_eq_skeleton, k0_part28_eq_skeleton, k0_part29_eq_skeleton, k0_part30_eq_skeleton]
  unfold k0_part25_skel k0_part26_skel k0_part27_skel k0_part28_skel k0_part29_skel k0_part30_skel
  simp only [Prog.lift, Prog.bind_op, Prog.bind_ret, Prog.pure_eq_ret]
  iintro HS Hx S5 G50 E65 Ho Hk
  iapply (acc_step m ρ 5 0 _ c _ rfl) $$ S5 Hx G50
  iintro S5 Hx G50
  iapply (recv_g m ρ K 16 c 5 1 rfl rfl (by decide) (by decide) rfl rfl) $$ HS
  iintro HS ⟨G51, -⟩
  iapply (acc_step m ρ 5 1 _ c _ rfl) $$ S5 Hx G51
  iintro S5 Hx G51
  iapply (recv_g m ρ K 20 c 5 2 rfl rfl (by decide) (by decide) rfl rfl) $$ HS
  iintro HS ⟨G52, -⟩
  iapply (acc_step m ρ 5 2 _ c _ rfl) $$ S5 Hx G52
  iintro S5 Hx G52
  iapply (start_p m ρ K 26 c _ 5 6 (acc m ρ c 5 2 (acc m ρ c 5 1 (acc m ρ c 5 0 (Z 5)))) rfl rfl rfl rfl (dev31 c) rfl rfl) $$ HS S5 E65
  iintro HS
  iapply (recv_r m ρ K 24 c 3 rfl rfl rfl (by decide) rfl rfl) $$ HS
  iintro HS R3
  iapply (out_step m ρ 3 c (off2 c 3) rfl) $$ R3 Ho
  iintro R3 Ho
  iapply (recv_r m ρ K 21 c 0 rfl rfl rfl (by decide) rfl rfl) $$ HS
  iintro HS R0
  iapply (out_step m ρ 0 c (off2 c 0) rfl) $$ R0 Ho
  iintro R0 Ho
  iapply (recv_r m ρ K 23 c 2 rfl rfl rfl (by decide) rfl rfl) $$ HS
  iintro HS R2
  iapply (out_step m ρ 2 c (off2 c 2) rfl) $$ R2 Ho
  iintro R2 Ho
  iapply (recv_r m ρ K 27 c 6 rfl rfl rfl (by decide) rfl rfl) $$ HS
  iintro HS R6
  iapply (out_step m ρ 6 c (off2 c 6) rfl) $$ R6 Ho
  iintro R6 Ho
  iapply (recv_r m ρ K 25 c 4 rfl rfl rfl (by decide) rfl rfl) $$ HS
  iintro HS R4
  iapply (out_step m ρ 4 c (off2 c 4) rfl) $$ R4 Ho
  iintro R4 Ho
  iapply (recv_r m ρ K 22 c 1 rfl rfl rfl (by decide) rfl rfl) $$ HS
  iintro HS R1
  iapply (out_step m ρ 1 c (off2 c 1) rfl) $$ R1 Ho
  iintro R1 Ho
  iapply (recv_r m ρ K 26 c 5 rfl rfl rfl (by decide) rfl rfl) $$ HS
  iintro HS R5
  iapply (out_step m ρ 5 c (off2 c 5) rfl) $$ R5 Ho
  iintro R5 Ho
  iapply Hk $$ HS Hx G50 G51 G52 R0 R1 R2 R3 R4 R5 R6 Ho

end Cert.KernelIdeal.Xor

end
-- ==== Proof.KiChunkF.lean ====
/-
The send waits: parts 31 to 37 of the body.
-/
module

public import proofs.«01_k».proof.Proof.KiOps

@[expose] public section

noncomputable section

namespace Cert.KernelIdeal.Xor

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 57 → ℕ)

set_option maxRecDepth 65536 in
theorem chunkF (c : Dev nD) {hx hw ho hg hs hr}
    {α : Type} {Q : α → sProp 𝕄} {k : PUnit → Prog (TpuEff nD τ sig (Elt F) Λ₀ .tc) α} :
    SS m ρ K c sorder []
      ⊢ iprop((SS m ρ K c [27] [26, 25, 24, 23, 22, 21, 20, 19, 18, 17, 8, 7, 2, 16, 15, 14, 13, 6, 5, 1, 12, 11, 10, 9, 4, 3, 0]
            -∗ WP c (k ⟨⟩) Q)
        -∗ WP c (do
            k0_part31 xM hx wM hw oM ho gM hg sM hs rM hr cc0_scratch3 cc0_scratch4 cc0_scratch5 cc0_scratch6
            k0_part32 xM hx wM hw oM ho gM hg sM hs rM hr cc0_scratch3 cc0_scratch4 cc0_scratch5 cc0_scratch6
            k0_part33 xM hx wM hw oM ho gM hg sM hs rM hr cc0_scratch3 cc0_scratch4 cc0_scratch5 cc0_scratch6
            k0_part34 xM hx wM hw oM ho gM hg sM hs rM hr cc0_scratch3 cc0_scratch4 cc0_scratch5 cc0_scratch6
            k0_part35 xM hx wM hw oM ho gM hg sM hs rM hr cc0_scratch3 cc0_scratch4 cc0_scratch5 cc0_scratch6
            k0_part36 xM hx wM hw oM ho gM hg sM hs rM hr cc0_scratch3 cc0_scratch4 cc0_scratch5 cc0_scratch6
            let u ← k0_part37 xM hx wM hw oM ho gM hg sM hs rM hr cc0_scratch3 cc0_scratch4 cc0_scratch5 cc0_scratch6
            k u) Q) := by
  simp only [k0_part31_eq_skeleton, k0_part32_eq_skeleton, k0_part33_eq_skeleton, k0_part34_eq_skeleton, k0_part35_eq_skeleton, k0_part36_eq_skeleton, k0_part37_eq_skeleton]
  unfold k0_part31_skel k0_part32_skel k0_part33_skel k0_part34_skel k0_part35_skel k0_part36_skel k0_part37_skel
  simp only [Prog.lift, Prog.bind_op, Prog.bind_ret, Prog.pure_eq_ret]
  iintro HS Hk
  unfold sorder
  iapply (swait_step m ρ K 0 c rfl (cr_w 0 rfl)) $$ HS
  iintro HS
  iapply (swait_step m ρ K 3 c rfl (cr_w 3 rfl)) $$ HS
  iintro HS
  iapply (swait_step m ρ K 4 c rfl (cr_g 4 rfl)) $$ HS
  iintro HS
  iapply (swait_step m ρ K 9 c rfl (cr_w 9 rfl)) $$ HS
  iintro HS
  iapply (swait_step m ρ K 10 c rfl (cr_g 10 rfl)) $$ HS
  iintro HS
  iapply (swait_step m ρ K 11 c rfl (cr_g 11 rfl)) $$ HS
  iintro HS
  iapply (swait_step m ρ K 12 c rfl (cr_g 12 rfl)) $$ HS
  iintro HS
  iapply (swait_step m ρ K 1 c rfl (cr_w 1 rfl)) $$ HS
  iintro HS
  iapply (swait_step m ρ K 5 c rfl (cr_w 5 rfl)) $$ HS
  iintro HS
  iapply (swait_step m ρ K 6 c rfl (cr_g 6 rfl)) $$ HS
  iintro HS
  iapply (swait_step m ρ K 13 c rfl (cr_w 13 rfl)) $$ HS
  iintro HS
  iapply (swait_step m ρ K 14 c rfl (cr_g 14 rfl)) $$ HS
  iintro HS
  iapply (swait_step m ρ K 15 c rfl (cr_g 15 rfl)) $$ HS
  iintro HS
  iapply (swait_step m ρ K 16 c rfl (cr_g 16 rfl)) $$ HS
  iintro HS
  iapply (swait_step m ρ K 2 c rfl (cr_w 2 rfl)) $$ HS
  iintro HS
  iapply (swait_step m ρ K 7 c rfl (cr_w 7 rfl)) $$ HS
  iintro HS
  iapply (swait_step m ρ K 8 c rfl (cr_g 8 rfl)) $$ HS
  iintro HS
  iapply (swait_step m ρ K 17 c rfl (cr_w 17 rfl)) $$ HS
  iintro HS
  iapply (swait_step m ρ K 18 c rfl (cr_g 18 rfl)) $$ HS
  iintro HS
  iapply (swait_step m ρ K 19 c rfl (cr_g 19 rfl)) $$ HS
  iintro HS
  iapply (swait_step m ρ K 20 c rfl (cr_g 20 rfl)) $$ HS
  iintro HS
  iapply (swait_step m ρ K 21 c rfl (cr_p 21 rfl)) $$ HS
  iintro HS
  iapply (swait_step m ρ K 22 c rfl (cr_p 22 rfl)) $$ HS
  iintro HS
  iapply (swait_step m ρ K 23 c rfl (cr_p 23 rfl)) $$ HS
  iintro HS
  iapply (swait_step m ρ K 24 c rfl (cr_p 24 rfl)) $$ HS
  iintro HS
  iapply (swait_step m ρ K 25 c rfl (cr_p 25 rfl)) $$ HS
  iintro HS
  iapply (swait_step m ρ K 26 c rfl (cr_p 26 rfl)) $$ HS
  iintro HS
  iapply Hk $$ HS

end Cert.KernelIdeal.Xor

end
-- ==== Proof.KiBody.lean ====
/-
The body of the kernel on one device, from the launch's hand-out to the finished result.
-/
module

public import proofs.«01_k».proof.Proof.KiParts
public import proofs.«01_k».proof.Proof.KiChunkB
public import proofs.«01_k».proof.Proof.KiChunkC
public import proofs.«01_k».proof.Proof.KiChunkD
public import proofs.«01_k».proof.Proof.KiChunkE
public import proofs.«01_k».proof.Proof.KiChunkF

@[expose] public section

noncomputable section

namespace Cert.KernelIdeal.Xor

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 57 → ℕ)

/-- The receive waits, last first; the send waits, last first; the copies started, last first. -/
abbrev rdone : List (Fin 28) := [26, 22, 25, 27, 23, 21, 24, 20, 16, 12, 19, 15, 11, 18, 14, 10, 17, 13, 9, 8, 7, 6, 5, 4, 3, 2, 1, 0]
abbrev sdone : List (Fin 28) := [27, 26, 25, 24, 23, 22, 21, 20, 19, 18, 17, 8, 7, 2, 16, 15, 14, 13, 6, 5, 1, 12, 11, 10, 9, 4, 3, 0]
abbrev sent : List (Fin 28) := [26, 22, 25, 27, 23, 21, 24, 20, 19, 16, 15, 12, 11, 18, 8, 14, 6, 10, 4, 17, 13, 9, 7, 5, 3, 2, 1, 0]

theorem sent_ready (c : Dev nD) : iprop(bigSepL sorder (fun i => (atPos ER (sendCell c i) 0 ∅ 0 : sProp 𝕄)) ∗ bigSepL sent (scred c)) ⊢ bigSepL sorder (sready c) :=
  sends_ready (F := F) c

theorem St_start (c : Dev nD) : iprop(records m ρ K ∗ levAts L lv ∗ (∃ W, owes (c : Thread nD τ) (owed c order) W)
    ∗ bigSepL order (need m ρ c) ∗ bigSepL rorder (rready c)) ⊢ St m ρ K c [0, 1, 2, 3, 5, 7, 9, 13, 17, 4, 10, 6, 14, 8, 18, 11, 12, 15, 16, 19, 20, 24, 21, 23, 27, 25, 22, 26] [] [0, 1, 2, 3, 4, 5, 6, 7, 8, 9, 13, 17, 10, 14, 18, 11, 15, 19, 12, 16, 20, 24, 21, 23, 27, 25, 22, 26] [] := by
  unfold St
  iintro ⟨H1, H2, H3, H4, H5⟩
  isplitl [H1]; · iexact H1
  isplitl [H2]; · iexact H2
  isplitl [H3]; · iexact H3
  isplitl [H4]; · iexact H4
  isplitr [H5]; · iempintro
  isplitl [H5]; · iexact H5
  iempintro

theorem St_done (c : Dev nD) (sn zl : List (Fin 28)) : St m ρ K c [] sn [] zl
    ⊢ iprop((∃ W, owes (c : Thread nD τ) 0 W) ∗ bigSepL sn (scred c) ∗ bigSepL zl (fun i => semVal (recvCell c i) 0)) := by
  unfold St
  iintro ⟨-, -, HO, -, Hsn, -, Hz⟩
  isplitl [HO]; · iexact HO
  isplitl [Hsn]; · iexact Hsn
  iexact Hz

theorem SS_start (c : Dev nD) : iprop(records m ρ K ∗ (∃ W, owes (c : Thread nD τ) 0 W) ∗ bigSepL sorder (sready c)) ⊢ SS m ρ K c sorder [] := by
  unfold SS
  iintro ⟨H1, H2, H3⟩
  isplitl [H1]; · iexact H1
  isplitl [H2]; · iexact H2
  isplitl [H3]; · iexact H3
  iempintro

theorem SS_done (c : Dev nD) (zl : List (Fin 28)) : SS m ρ K c [] zl
    ⊢ iprop((∃ W, owes (c : Thread nD τ) 0 W) ∗ bigSepL zl (fun i => semVal (sendCell c i) 0) ∗ bigSepL zl (sendPay m ρ c)) := by
  unfold SS
  rw [bigSepL_both]
  iintro ⟨-, HO, -, Hz⟩
  isplitl [HO]; · iexact HO
  iexact Hz

/-! ## The product slots handed over -/

omit [FloatOps F] in
theorem slots0 (c : Dev nD) : giveR (F := F) (xr (bmask 0) c) 0 ⊢ iprop(slotF rM (xr 1 c) 0 ∗ slotF rM (xr 1 c) 1 ∗ slotF rM (xr 1 c) 4 ∗ slotF rM (xr 1 c) 5) := Entails.refl _
omit [FloatOps F] in
theorem slots1 (c : Dev nD) : giveR (F := F) (xr (bmask 1) c) 1 ⊢ slotF rM (xr 3 c) 2 := Entails.refl _
omit [FloatOps F] in
theorem slots2 (c : Dev nD) : giveR (F := F) (xr (bmask 2) c) 2 ⊢ iprop(slotF rM (xr 4 c) 3 ∗ slotF rM (xr 4 c) 6) := Entails.refl _

theorem xr_32 : ∀ c : Dev nD, xr 2 (xr 3 c) = xr 1 c := by decide
theorem xr_37 : ∀ c : Dev nD, xr 7 (xr 3 c) = xr 4 c := by decide
theorem xr_45 : ∀ c : Dev nD, xr 5 (xr 4 c) = xr 1 c := by decide

omit [FloatOps F] in
theorem pass1 (c : Dev nD) : iprop(slotF (F := F) rM (xr 1 c) 1 ∗ slotF rM (xr 4 c) 6 ∗ slotF rM (xr 1 c) 5) ⊢ extra (xr (mask 1) c) 1 := by
  rw [show mask 1 = 3 from rfl, extra_1, xr_32, xr_37]
omit [FloatOps F] in
theorem pass2 (c : Dev nD) : slotF (F := F) rM (xr 1 c) 4 ⊢ extra (xr (mask 2) c) 2 := by
  rw [show mask 2 = 4 from rfl, extra_2, xr_45]

/-- What the three barrier signals hand over, and what the barrier wait brings. -/
theorem signal_pay (c : Dev nD) (d : Fin 3) (k : Fin 8) (hk : bmask d = k) : iprop(giveG (F := F) c d ∗ giveR c d) ⊢ (sched m ρ).payload (barCell (xr k c)) 0 d := by
  subst hk
  rw [payload_bar]
  unfold barPay
  rw [xr_xr]

/-! ## The whole buffers -/

theorem hz2 : (![0, 0] : Fin 2 → ℕ) = fun _ => 0 := funext fun a => by fin_cases a <;> rfl
theorem hz3 : (![0, 0, 0] : Fin 3 → ℕ) = fun _ => 0 := funext fun a => by fin_cases a <;> rfl

omit [FloatOps F] in
theorem whole_x (f : (cc0_stg0_0 : Ref sig .tc).ty.Contents (Elt F)) :
    xM.view.readAt (Elt F) (Rect.unit (s := S512x4096) ![0, 0] S512x4096.size inb_S512x4096_S512x4096_0_0).toLoadRect f = f :=
  Memref.readAt_unit_zero (Elt F) cc0_stg0_0 hz2 _ f
omit [FloatOps F] in
theorem whole_w (f : (cc0_stg1_0 : Ref sig .tc).ty.Contents (Elt F)) :
    wM.view.readAt (Elt F) (Rect.unit (s := S4096x256) ![0, 0] S4096x256.size inb_S4096x256_S4096x256_0_0).toLoadRect f = f :=
  Memref.readAt_unit_zero (Elt F) cc0_stg1_0 hz2 _ f
omit [FloatOps F] in
theorem whole_s (f w : (cc0_scratch1 : Ref sig .tc).ty.Contents (Elt F)) :
    (sM.access (Rect.unit (s := S7x512x256) ![0, 0, 0] S7x512x256.size inb_S7x512x256_S7x512x256_0_0_0) : View sig .tc _ _ _).write (Elt F) f w Finset.univ = w :=
  Memref.write_access_unit_zero_univ (Elt F) cc0_scratch1 hz3 _ f w

theorem own_block (c : Dev nD) (f : (cc0_stg2_0 : Ref sig .tc).ty.Contents (Elt F)) :
    (((c : Thread nD τ).loc cc0_stg2_0) ↦{fullShare} (oM.access (Rect.unit (s := S4096x256) (k0_off1 c) S512x256.size (k0_off1_inb c)) : View sig .tc _ _ _).write (Elt F) f (k0_pay2 (xs m ρ c) (ws m ρ c)) Finset.univ : sProp 𝕄)
      ⊢ outSt m ρ c [0] := by
  unfold outSt
  iintro H
  iexists _
  isplitr [H]
  · ipureintro
    exact write_block m ρ c 0 (off1 c) (k0_off1_inb c) f _ rfl [] (fun _ _ h => absurd h List.not_mem_nil)
  · iexact H

theorem all_steps : ∀ b c : Fin 8, ∃ δ ∈ ([Fin.succ 5, Fin.succ 1, Fin.succ 4, Fin.succ 6, Fin.succ 2, Fin.succ 0, Fin.succ 3, 0] : List (Fin 8)), b.val = (xr δ c).val := by decide

/-- Every block written: the result. -/
theorem out_done (c : Dev nD) : outSt m ρ c [Fin.succ 5, Fin.succ 1, Fin.succ 4, Fin.succ 6, Fin.succ 2, Fin.succ 0, Fin.succ 3, 0]
    ⊢ (((c : Thread nD τ).loc cc0_stg2_0) ↦{fullShare} OUT m ρ c : sProp 𝕄) := by
  unfold outSt
  iintro ⟨%f, %hf, H⟩
  have hb : f = OUT m ρ c := funext fun x => by
    have hx : ((x : S4096x256.Idx) (0 : Fin 2)).val < 4096 := ((x : S4096x256.Idx) (0 : Fin 2)).isLt
    obtain ⟨δ, hδ, e⟩ := all_steps ⟨((x : S4096x256.Idx) (0 : Fin 2)).val / 512, by omega⟩ c
    exact hf x δ hδ e
  rw [hb]
  iexact H

/-! ## The body -/

theorem s_zeros (c : Dev nD) : (((c : Thread nD τ).loc cc0_scratch1) ↦{fullShare} (k0_pay1 (F := F)) : sProp 𝕄)
    ⊢ iprop(slotP sM c 0 (Z 0) ∗ slotP sM c 1 (Z 1) ∗ slotP sM c 2 (Z 2) ∗ slotP sM c 3 (Z 3) ∗ slotP sM c 4 (Z 4) ∗ slotP sM c 5 (Z 5) ∗ slotP sM c 6 (Z 6)) := s_zero c

omit [FloatOps F] in
theorem g_joins (c : Dev nD) : iprop(gPts (F := F) m ρ c 0 0 fullShare ∗ gPts (F := F) m ρ c 0 1 fullShare ∗ gPts (F := F) m ρ c 0 2 fullShare ∗ gPts (F := F) m ρ c 1 0 fullShare ∗ gPts (F := F) m ρ c 1 1 fullShare ∗ gPts (F := F) m ρ c 1 2 fullShare ∗ gPts (F := F) m ρ c 2 0 fullShare ∗ gPts (F := F) m ρ c 2 1 fullShare ∗ gPts (F := F) m ρ c 2 2 fullShare ∗ gPts (F := F) m ρ c 3 0 fullShare ∗ gPts (F := F) m ρ c 3 1 fullShare ∗ gPts (F := F) m ρ c 3 2 fullShare ∗ gPts (F := F) m ρ c 4 0 fullShare ∗ gPts (F := F) m ρ c 4 1 fullShare ∗ gPts (F := F) m ρ c 4 2 fullShare ∗ gPts (F := F) m ρ c 5 0 fullShare ∗ gPts (F := F) m ρ c 5 1 fullShare ∗ gPts (F := F) m ρ c 5 2 fullShare ∗ gPts (F := F) m ρ c 6 0 fullShare ∗ gPts (F := F) m ρ c 6 1 fullShare ∗ gPts (F := F) m ρ c 6 2 fullShare)
    ⊢ iprop(∃ f, ((c : Thread nD τ).loc cc0_scratch0) ↦{fullShare} f) := g_join m ρ c
theorem r_joins (c : Dev nD) : iprop(slotF (F := F) rM c 0 ∗ slotF (F := F) rM c 1 ∗ slotF (F := F) rM c 2 ∗ slotF (F := F) rM c 3 ∗ slotF (F := F) rM c 4 ∗ slotF (F := F) rM c 5 ∗ slotF (F := F) rM c 6)
    ⊢ iprop(∃ f, ((c : Thread nD τ).loc cc0_scratch2) ↦{fullShare} f) := r_join c

/-- What device `c` starts from. -/
def bodyIn (c : Dev nD) : sProp 𝕄 :=
  iprop(records m ρ K ∗ levAts L lv ∗ (∃ W, owes (c : Thread nD τ) (O₀ c) W)
    ∗ (atPos ER (barCell c) 0 ∅ 0 ∗ cred (tallyAt (barCell c) () 3))
    ∗ (dutyTok ER (barCell (xr 1 c)) 0 0 ∗ dutyTok ER (barCell (xr 3 c)) 0 1 ∗ dutyTok ER (barCell (xr 4 c)) 0 2)
    ∗ bigSepL order (perm c) ∗ bigSepL rorder (rready c) ∗ bigSepL sorder (fun i => (atPos ER (sendCell c i) 0 ∅ 0 : sProp 𝕄))
    ∗ xPts m ρ c ∗ wW m ρ c fullShare ∗ (∃ f, ((c : Thread nD τ).loc cc0_stg2_0) ↦{fullShare} f)
    ∗ (∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f))

/-- And what it ends with. -/
def bodyOut (c : Dev nD) : sProp 𝕄 :=
  iprop((∃ W, owes (c : Thread nD τ) 0 W) ∗ xPts m ρ c ∗ wW m ρ c fullShare ∗ (((c : Thread nD τ).loc cc0_stg2_0) ↦{fullShare} OUT m ρ c)
    ∗ ((∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f))
    ∗ semVal (barCell c) 0 ∗ bigSepL rdone (fun i => semVal (recvCell c i) 0) ∗ bigSepL sdone (fun i => semVal (sendCell c i) 0))

set_option maxRecDepth 65536 in
set_option maxHeartbeats 2000000 in
theorem body_run (c : Dev nD) (Q : PUnit → sProp 𝕄) : bodyIn m ρ K c
    ⊢ iprop((bodyOut m ρ c -∗ Q ⟨⟩) -∗ WP c (cc0_body xM (Memref.isWhole_whole _) wM (Memref.isWhole_whole _) oM (Memref.isWhole_whole _) gM (Memref.isWhole_whole _)
        sM (Memref.isWhole_whole _) rM (Memref.isWhole_whole _) cc0_scratch3 cc0_scratch4 cc0_scratch5 cc0_scratch6) Q) := by
  simp only [cc0_body_eq_skeleton]
  unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyIn
  iintro ⟨#Hrec, #Hlev, ⟨%W, HO⟩, ⟨Hat, Hc⟩, ⟨Ht0, Ht1, Ht2⟩, Hperm, Hrl, Hsat, Hx, Hw, ⟨%fo, Ho⟩, ⟨%fg, Hg⟩, ⟨%fs, Hs⟩, ⟨%fr, Hr⟩⟩ Hk
  ihave ⟨G0, G1, G2⟩ := (g_give c fg) $$ Hg
  ihave ⟨R0, R1, R2⟩ := (r_give c fr) $$ Hr
  simp only [dev1 c, dev2 c, dev3 c]
  ihave #⟨HI1, HR1⟩ := (record_bar m ρ K (xr 1 c)) $$ Hrec
  ihave #⟨HI3, HR3⟩ := (record_bar m ρ K (xr 3 c)) $$ Hrec
  ihave #⟨HI4, HR4⟩ := (record_bar m ρ K (xr 4 c)) $$ Hrec
  ihave #⟨HIc, HRc⟩ := (record_bar m ρ K c) $$ Hrec
  iapply (Rounds.wp_signal 𝒱₀ ER (sched m ρ) (c : Thread nD τ) none (dst := (xr 1 c : Thread nD τ)) (κ := K (xr 1 c, 56)) (d := 0)
      (by rw [duties_bar]; exact Finset.mem_univ _) ((amount_bar m ρ (xr 1 c) 0).trans (by decide)) () (O₂ c) rfl) $$ [HO Ht0 G0 R0]
  · isplitr; · iexact HI1
    isplitl [HO]; · iexact HO
    isplitl [Ht0]; · iexact Ht0
    isplitl [G0 R0]
    · iapply (signal_pay m ρ c 0 1 rfl)
      isplitl [G0]
      · iexact G0
      · iexact R0
    · iexact HR1
  iintro HO
  iapply (Rounds.wp_signal 𝒱₀ ER (sched m ρ) (c : Thread nD τ) none (dst := (xr 3 c : Thread nD τ)) (κ := K (xr 3 c, 56)) (d := 1)
      (by rw [duties_bar]; exact Finset.mem_univ _) ((amount_bar m ρ (xr 3 c) 1).trans (by decide)) () (O₁ c) rfl) $$ [HO Ht1 G1 R1]
  · isplitr; · iexact HI3
    isplitl [HO]; · iexact HO
    isplitl [Ht1]; · iexact Ht1
    isplitl [G1 R1]
    · iapply (signal_pay m ρ c 1 3 rfl)
      isplitl [G1]
      · iexact G1
      · iexact R1
    · iexact HR3
  iintro HO
  iapply (Rounds.wp_signal 𝒱₀ ER (sched m ρ) (c : Thread nD τ) none (dst := (xr 4 c : Thread nD τ)) (κ := K (xr 4 c, 56)) (d := 2)
      (by rw [duties_bar]; exact Finset.mem_univ _) ((amount_bar m ρ (xr 4 c) 2).trans (by decide)) () (owed c order) rfl) $$ [HO Ht2 G2 R2]
  · isplitr; · iexact HI4
    isplitl [HO]; · iexact HO
    isplitl [Ht2]; · iexact Ht2
    isplitl [G2 R2]
    · iapply (signal_pay m ρ c 2 4 rfl)
      isplitl [G2]
      · iexact G2
      · iexact R2
    · iexact HR4
  iintro HO
  iapply (Rounds.wp_wait_rest_token 𝒱₀ ER (sched m ρ) (c : Thread nD τ) none (κ := K (c, 56)) (wpE_semWait_eq 𝒱₀ (c : Thread nD τ) none Set.univ) (Set.mem_univ _) ()
      (O := owed c order) (W := W) (R := 0) (m := 0) (T := ∅) (by rw [expect_bar]; decide)) $$ [Hc HO Hat]
  · isplitr; · iexact HIc
    isplitl [Hc]; · iexact Hc
    isplitl [HO]; · iexact HO
    isplitr
    · iapply (mayWait_owed c (.reg barS) order (fun i _ => by rw [lv_bar]; omega)); iexact Hlev
    iexact Hat
  iintro ⟨HO, Hat, -, Hpay⟩
  ihave ⟨B0, B1, B2⟩ := (Entails.of_eq (rest_bar m ρ c)) $$ Hpay
  imod (Rounds.cell_close ER (sched m ρ) (Set.mem_univ (K (c, 56))) (fun h => h) (R := 0 + 1) (duties_later m ρ (barCell c))) $$ [Hat] with Hzb
  · isplitr; · iexact HIc
    iexact Hat
  unfold barPay
  icases B0 with ⟨G0, R0⟩
  icases B1 with ⟨G1, R1⟩
  icases B2 with ⟨G2, R2⟩
  ihave ⟨E10, E11, E14, E15⟩ := (slots0 c) $$ R0
  ihave E32 := (slots1 c) $$ R1
  ihave ⟨E43, E46⟩ := (slots2 c) $$ R2
  ihave Hdst := (dsts c) $$ [G0 G1 G2]
  · isplitl [G0]; · iexact G0
    isplitl [G1]; · iexact G1
    iexact G2
  ihave ⟨Hw3, Hw2, Hw1, Hw0⟩ := (w_toks m ρ c).1 $$ Hw
  ihave Hsrc := (srcs m ρ c) $$ [Hw2 Hw1 Hw0]
  · isplitl [Hw2]; · iexact Hw2
    isplitl [Hw1]; · iexact Hw1
    iexact Hw0
  ihave Hneed := (needs m ρ c) $$ [Hperm Hsrc Hdst]
  · isplitl [Hperm]; · iexact Hperm
    isplitl [Hsrc]; · iexact Hsrc
    iexact Hdst
  ihave HS := (St_start m ρ K c) $$ [HO Hneed Hrl]
  · isplitr; · iexact Hrec
    isplitr; · iexact Hlev
    isplitl [HO]; · iexists _; iexact HO
    isplitl [Hneed]; · iexact Hneed
    iexact Hrl
  ihave X1 := (pass1 c) $$ [E11 E46 E15]
  · isplitl [E11]; · iexact E11
    isplitl [E46]; · iexact E46
    iexact E15
  ihave X2 := (pass2 c) $$ E14
  iapply (start_w0 m ρ K 0 c _ rfl (by decide) (dev4 c) rfl rfl) $$ HS
  iintro HS
  iapply (start_w m ρ K 1 c _ rfl (dev5 c) rfl rfl) $$ HS X1
  iintro HS
  iapply (start_w m ρ K 2 c _ rfl (dev6 c) rfl rfl) $$ HS X2
  iintro HS
  iapply (start_w0 m ρ K 3 c _ rfl (by decide) (dev7 c) rfl rfl) $$ HS
  iintro HS
  iapply (start_w0 m ρ K 5 c _ rfl (by decide) (dev8 c) rfl rfl) $$ HS
  iintro HS
  iapply (start_w0 m ρ K 7 c _ rfl (by decide) (dev9 c) rfl rfl) $$ HS
  iintro HS
  iapply (start_w0 m ρ K 9 c _ rfl (by decide) (dev10 c) rfl rfl) $$ HS
  iintro HS
  iapply (start_w0 m ρ K 13 c _ rfl (by decide) (dev11 c) rfl rfl) $$ HS
  iintro HS
  iapply (start_w0 m ρ K 17 c _ rfl (by decide) (dev12 c) rfl rfl) $$ HS
  iintro HS
  iapply (wp_load 𝒱₀ (c : Thread nD τ) none Set.univ (m := sM) (Finset.subset_univ _)) $$ Hs
  iintro Hs
  iapply (wp_store 𝒱₀ (c : Thread nD τ) none Set.univ (m := sM) (r := Rect.unit (s := S7x512x256) ![0, 0, 0] S7x512x256.size inb_S7x512x256_S7x512x256_0_0_0) (Mk := Finset.univ) (S := Finset.univ)
    (f := fs) (w := k0_pay1 (F := F)) (Finset.subset_univ _)) $$ Hs
  iintro Hs
  rw [whole_s]
  ihave ⟨S0, S1, S2, S3, S4, S5, S6⟩ := (s_zeros c) $$ Hs
  unfold xPts wW
  iapply (wp_load 𝒱₀ (c : Thread nD τ) none Set.univ (m := xM) (Finset.subset_univ _)) $$ Hx
  iintro Hx
  iapply (wp_load 𝒱₀ (c : Thread nD τ) none Set.univ (m := wM) (Finset.subset_univ _)) $$ Hw3
  iintro Hw3
  rw [whole_x, whole_w]
  iapply (wp_load 𝒱₀ (c : Thread nD τ) none Set.univ (m := oM) (Finset.subset_univ _)) $$ Ho
  iintro Ho
  iapply (wp_store 𝒱₀ (c : Thread nD τ) none Set.univ (m := oM) (r := Rect.unit (s := S4096x256) (k0_off1 c) S512x256.size (k0_off1_inb c)) (Mk := Finset.univ) (S := Finset.univ)
    (f := fo) (w := k0_pay2 (xs m ρ c) (ws m ρ c)) (Finset.subset_univ _)) $$ Ho
  iintro Ho
  ihave Ho := (own_block m ρ c fo) $$ Ho
  ihave Hx := (show (xM.view.loc (c : Thread nD τ) ↦{fullShare} xs m ρ c : sProp 𝕄) ⊢ xPts m ρ c from Entails.refl _) $$ Hx
  iapply (chunkB m ρ K c) $$ HS Hx S0 S2 S3
  iintro HS Hx S0 S2 S3 G00 G21 G32 G20 G10 G31 G61 G02 T020 E21 E76 E54 E65
  iapply (chunkC m ρ K c) $$ HS Hx S0 S1 S2 S3 S4 S6 G20 G10 G31 G61 G02 T020 E10 E43
  iintro HS Hx S1 S2 S4 S6 G20 G10 G31 G61 G02 G42 G30 G01 G22
  iapply (chunkD m ρ K c) $$ HS Hx S1 S2 S4 S6 E32 E76 E54 E21
  iintro HS Hx G40 G11 G62 G60 G41 G12 G50
  iapply (chunkE m ρ K c) $$ HS Hx S5 G50 E65 Ho
  iintro HS Hx G50 G51 G52 R0 R1 R2 R3 R4 R5 R6 Ho
  ihave ⟨HO, Hsn, Hzr⟩ := (St_done m ρ K c _ _) $$ HS
  ihave Hsr := (sent_ready c) $$ [Hsat Hsn]
  · isplitl [Hsat]; · iexact Hsat
    iexact Hsn
  ihave HS := (SS_start m ρ K c) $$ [HO Hsr]
  · isplitr; · iexact Hrec
    isplitl [HO]; · iexact HO
    iexact Hsr
  iapply (chunkF m ρ K c) $$ HS
  iintro HS
  iapply (swait_step m ρ K 27 c rfl (cr_p 27 rfl)) $$ HS
  iintro HS
  ihave ⟨HO, Hzs, Hpay⟩ := (SS_done m ρ K c _) $$ HS
  ihave ⟨⟨Hw2, Hw1, Hw0⟩, ⟨T000, T001, T210, T211, T320, T321, T200, T100, T310, T610, T020, T420⟩, Hs⟩ := (pays_back m ρ c) $$ Hpay
  ihave Ho := (out_done m ρ c) $$ Ho
  ihave Hs := (s_join c) $$ Hs
  ihave G00 := (join2 m ρ c 0 0) $$ G00 T000 T001
  ihave G21 := (join2 m ρ c 2 1) $$ G21 T210 T211
  ihave G32 := (join2 m ρ c 3 2) $$ G32 T320 T321
  ihave G20 := (join1 m ρ c 2 0) $$ G20 T200
  ihave G10 := (join1 m ρ c 1 0) $$ G10 T100
  ihave G31 := (join1 m ρ c 3 1) $$ G31 T310
  ihave G61 := (join1 m ρ c 6 1) $$ G61 T610
  ihave G02 := (join1 m ρ c 0 2) $$ G02 T020
  ihave G42 := (join1 m ρ c 4 2) $$ G42 T420
  ihave Hg := (g_joins m ρ c) $$ [G00 G01 G02 G10 G11 G12 G20 G21 G22 G30 G31 G32 G40 G41 G42 G50 G51 G52 G60 G61 G62]
  · isplitl [G00]; · iexact G00
    isplitl [G01]; · iexact G01
    isplitl [G02]; · iexact G02
    isplitl [G10]; · iexact G10
    isplitl [G11]; · iexact G11
    isplitl [G12]; · iexact G12
    isplitl [G20]; · iexact G20
    isplitl [G21]; · iexact G21
    isplitl [G22]; · iexact G22
    isplitl [G30]; · iexact G30
    isplitl [G31]; · iexact G31
    isplitl [G32]; · iexact G32
    isplitl [G40]; · iexact G40
    isplitl [G41]; · iexact G41
    isplitl [G42]; · iexact G42
    isplitl [G50]; · iexact G50
    isplitl [G51]; · iexact G51
    isplitl [G52]; · iexact G52
    isplitl [G60]; · iexact G60
    isplitl [G61]; · iexact G61
    iexact G62
  ihave R0 := (slot_any rM c 0 _) $$ R0
  ihave R1 := (slot_any rM c 1 _) $$ R1
  ihave R2 := (slot_any rM c 2 _) $$ R2
  ihave R3 := (slot_any rM c 3 _) $$ R3
  ihave R4 := (slot_any rM c 4 _) $$ R4
  ihave R5 := (slot_any rM c 5 _) $$ R5
  ihave R6 := (slot_any rM c 6 _) $$ R6
  ihave Hr := (r_joins c) $$ [R0 R1 R2 R3 R4 R5 R6]
  · isplitl [R0]; · iexact R0
    isplitl [R1]; · iexact R1
    isplitl [R2]; · iexact R2
    isplitl [R3]; · iexact R3
    isplitl [R4]; · iexact R4
    isplitl [R5]; · iexact R5
    iexact R6
  ihave Hw := (w_toks m ρ c).2 $$ [Hw3 Hw2 Hw1 Hw0]
  · isplitl [Hw3]; · unfold wW; iexact Hw3
    isplitl [Hw2]; · iexact Hw2
    isplitl [Hw1]; · iexact Hw1
    iexact Hw0
  unfold WP
  rw [wp_ret]
  imodintro
  iapply Hk
  unfold bodyOut
  isplitl [HO]; · iexact HO
  isplitl [Hx]; · iexact Hx
  isplitl [Hw]; · iexact Hw
  isplitl [Ho]; · iexact Ho
  isplitl [Hg Hs Hr]
  · isplitl [Hg]; · iexact Hg
    isplitl [Hs]; · iexact Hs
    iexact Hr
  isplitl [Hzb]; · iexact Hzb
  isplitl [Hzr]; · iexact Hzr
  iexact Hzs

end Cert.KernelIdeal.Xor

end
-- ==== Proof.KiLaunch.lean ====
/-
The launch: every cell allocated for all devices at once, the tokens handed to the devices that pay with them, and the
run of the whole program.
-/
module

public import proofs.«01_k».proof.Proof.KiBody
public import Idealize.ShloMosaic.Lib.Pipeline.CollectiveSegs

@[expose] public section

noncomputable section

namespace Cert.KernelIdeal.Xor

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTokN shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data and the body -/

/-- The tokens of the duties device `c` pays. -/
def payToks (c : Dev nD) : sProp 𝕄 :=
  iprop((dutyTok ER (barCell (xr 1 c)) 0 0 ∗ dutyTok ER (barCell (xr 3 c)) 0 1 ∗ dutyTok ER (barCell (xr 4 c)) 0 2) ∗ bigSepL order (perm c))

/-- What the launch makes for device `c`. -/
def share0 (c : Dev nD) : sProp 𝕄 :=
  iprop(∃ K, records m ρ K ∗ (atPos ER (barCell c) 0 ∅ 0 ∗ bigSepL sorder (fun i => (atPos ER (sendCell c i) 0 ∅ 0 : sProp 𝕄))
    ∗ bigSepL rorder (fun i => (atPos ER (recvCell c i) 0 ∅ 0 : sProp 𝕄))) ∗ payToks c)

def start (c : Dev nD) : sProp 𝕄 :=
  iprop(share0 m ρ c ∗ (cred (tallyAt (barCell c) () 3) ∗ bigSepL rorder (fun i => (cred (tallyAt (recvCell c i) () (N i)) : sProp 𝕄))) ∗ levAts L lv)

/-- The scratch buffers at any contents. -/
def scr (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

def zeros (c : Dev nD) : sProp 𝕄 :=
  iprop(semVal (barCell c) 0 ∗ bigSepL rdone (fun i => (semVal (recvCell c i) 0 : sProp 𝕄)) ∗ bigSepL sdone (fun i => (semVal (sendCell c i) 0 : sProp 𝕄)))

def Φ₀ (c : Dev nD) : sProp 𝕄 := iprop(start m ρ c ∗ scr c)
def Φ₁ (c : Dev nD) : sProp 𝕄 := iprop(scr c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => ws m ρ c
    | ⟨2, _⟩ => OUT m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (xs m ρ c) ∗ stg c cc0_stg1_0 (ws m ρ c) ∗ stg c cc0_stg2_0 (OUT m ρ c))

theorem before_x (c : Dev nD) (d) : (dats m ρ 0 c).before (0 : Fin 3) t0_0 d = xs m ρ c := by
  unfold Dat.before; rw [if_pos (fetch0_0 t0_0)]; rfl
theorem before_w (c : Dev nD) (d) : (dats m ρ 0 c).before (1 : Fin 3) t0_0 d = ws m ρ c := by
  unfold Dat.before; rw [if_pos (fetch0_1 t0_0)]; rfl

/-- The receive positions and credits, paired. -/
theorem recvs_ready (c : Dev nD) : iprop(bigSepL rorder (fun i => (atPos ER (recvCell c i) 0 ∅ 0 : sProp 𝕄))
    ∗ bigSepL rorder (fun i => (cred (tallyAt (recvCell c i) () (N i)) : sProp 𝕄))) ⊢ bigSepL rorder (rready c) :=
  Entails.of_eq (bigSepL_both rorder _ _)

set_option maxRecDepth 65536 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (cc0_body xM (Memref.isWhole_whole _) wM (Memref.isWhole_whole _) oM (Memref.isWhole_whole _) gM (Memref.isWhole_whole _)
        sM (Memref.isWhole_whole _) rM (Memref.isWhole_whole _) cc0_scratch3 cc0_scratch4 cc0_scratch5 cc0_scratch6) (fun _ => bodyPost m ρ c)
  unfold bodyPre Φ₀ start share0 payToks scr Dat.owesAt Pipeline.owesWithin
  rw [show (dats m ρ 0 c).owed t0_0.castSucc = O₀ c from rfl]
  iintro ⟨⟨⟨⟨%K, Hrec, ⟨HaB, HaS, HaR⟩, HtB, Hperm⟩, ⟨HcB, HcR⟩, Hlev⟩, Hg, Hs, Hr⟩, ⟨%W, %hW, HO⟩, ⟨%dx, %fx, %hx, Hx⟩, ⟨%dw, %fw, %hw, Hw⟩, ⟨%d0, %fo, %ho, Ho⟩⟩
  subst hx hw
  rw [before_x, before_w]
  ihave Hrr := (recvs_ready (F := F) c) $$ [HaR HcR]
  · isplitl [HaR] <;> iassumption
  iapply (body_run m ρ K c fun _ => bodyPost m ρ c) $$ [Hrec HaB HaS HtB Hperm HcB Hlev Hg Hs Hr HO Hx Hw Ho Hrr]
  · unfold bodyIn xPts wW
    isplitl [Hrec]; · iexact Hrec
    isplitl [Hlev]; · iexact Hlev
    isplitl [HO]; · iexists W; iexact HO
    isplitl [HaB HcB]
    · isplitl [HaB] <;> iassumption
    isplitl [HtB]; · iexact HtB
    isplitl [Hperm]; · iexact Hperm
    isplitl [Hrr]; · iexact Hrr
    isplitl [HaS]; · iexact HaS
    isplitl [Hx]; · iexact Hx
    isplitl [Hw]; · iexact Hw
    isplitl [Ho]; · iexists fo; iexact Ho
    isplitl [Hg]; · iexact Hg
    isplitl [Hs]; · iexact Hs
    iexact Hr
  · unfold bodyOut xPts wW
    iintro ⟨⟨%W', HO⟩, Hx, Hw, Ho, Hscr, Hz⟩
    unfold bodyPost Φ₁ scr zeros Dat.owesAt Pipeline.owesWithin
    rw [show (dats m ρ 0 c).owed t0_0.succ = 0 from rfl]
    isplitl [Hscr Hz]
    · isplitl [Hscr]; · iexact Hscr
      iexact Hz
    isplitl [HO]
    · iexists W'; isplitr; · ipureintro; exact fun _ _ => Or.inl trivial
      iexact HO
    isplitl [Hx]
    · iexists _; isplitr; · (ipureintro; rfl)
      iexact Hx
    isplitl [Hw]
    · iexists _; isplitr; · (ipureintro; rfl)
      iexact Hw
    iexists _; isplitr; · (ipureintro; rfl)
    iexact Ho

/-! ## The cells of a device, listed -/

/-- The kernel's own DMA semaphores by number. -/
abbrev osem : Fin 56 → SemLoc sig := fun k => .dma ⟨3 + k.val, by show _ < 59; omega⟩
theorem ownSemFacts : Pipeline.OwnSemFacts cfg0.spec osem := by decide

theorem share_eq (c : Dev nD) (w : Fin cfg0.W) : (dats m ρ 0 c).share w = fullShare := by unfold Dat.share; split <;> rfl

def sOwn (i : Fin 28) : Fin 56 := if h : i.val < 21 then ⟨i.val, by omega⟩ else ⟨21 + i.val, by omega⟩
def rOwn (i : Fin 28) : Fin 56 := if h : i.val < 21 then ⟨21 + i.val, by omega⟩ else ⟨28 + i.val, by omega⟩
theorem osem_s : ∀ i, osem (sOwn i) = .dma (ssem i) := by decide
theorem osem_r : ∀ i, osem (rOwn i) = .dma (rsem i) := by decide

/-- A device's 57 cells: the barrier, the send cells, the receive cells. -/
theorem cells_split (Φ : Fin 57 → sProp 𝕄) :
    bigSep Finset.univ Φ = iprop(Φ 56 ∗ bigSepL sorder (fun i => Φ (sIx i)) ∗ bigSepL rorder (fun i => Φ (rIx i))) := by
  rw [bigSep_univ_eq_bigSepL (56 :: (sorder.map sIx ++ rorder.map rIx)) (by decide) (by decide), bigSepL_cons', bigSepL_append, bigSepL_map, bigSepL_map]

theorem own_split (c : Dev nD) :
    (Pipeline.ownSems0 (Ix := Unit) (Name := ℕ) (U := UU) (Lvl := ℕ) (Val := Elt F) (τ := τ) osem c : sProp 𝕄)
      = iprop(bigSepL sorder (fun i => (semVal (sendCell c i) 0 : sProp 𝕄)) ∗ bigSepL rorder (fun i => (semVal (recvCell c i) 0 : sProp 𝕄))) := by
  rw [Pipeline.ownSems0_eq_of_list c osem (sorder.map sOwn ++ rorder.map rOwn) (by decide) (by decide), bigSepL_append, bigSepL_map, bigSepL_map]
  simp only [osem_s, osem_r]

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 57 => semVal (kcell (c, k)) 0 : sProp 𝕄) := by
  rw [own_split, unscopedSems0_eq, cells_split]
  simp only [kcell_send, kcell_recv, kcell_bar]
  iintro ⟨⟨HS, HV⟩, HB⟩
  isplitl [HB]; · iexact HB
  isplitl [HS] <;> iassumption

/-! ## Funding -/

theorem csem_inj : Function.Injective fun k : Fin 57 =>
    if h : k.val < 56 then (.dma ⟨3 + k.val, by show _ < 59; omega⟩ : SemLoc sig) else .reg barS := by
  intro k k' h
  dsimp only at h
  by_cases h1 : k.val < 56 <;> by_cases h2 : k'.val < 56
  · rw [dif_pos h1, dif_pos h2] at h
    have : 3 + k.val = 3 + k'.val := congrArg (fun s : SemLoc sig => match s with | .dma q => q.val | .reg _ => 0) h
    exact Fin.ext (by omega)
  · rw [dif_pos h1, dif_neg h2] at h; cases h
  · rw [dif_neg h1, dif_pos h2] at h; cases h
  · exact Fin.ext (by omega)

theorem kcell_injective : Function.Injective (kcell : Dev nD × Fin 57 → GSem nD τ sig) := by
  rintro ⟨c, k⟩ ⟨c', k'⟩ h
  have h1 : c = c' := by have := congrArg (fun g : GSem nD τ sig => g.1.1) h; exact this
  subst h1
  have h2 : k = k' := csem_inj (congrArg Prod.snd h)
  subst h2; rfl
def ringCells : Finset (GSem nD τ sig) := Finset.univ.map ⟨kcell, kcell_injective⟩

/-- Three tokens minted per cell; the copies' cells use the first. -/
abbrev tokOf (p : (Dev nD × Fin 57) × Fin 3) : GSem nD τ sig × ℕ × Fin 3 := (kcell p.1, 0, p.2)
theorem tokOf_injective : Function.Injective tokOf := by
  rintro ⟨p, d⟩ ⟨p', d'⟩ h
  have h1 : p = p' := kcell_injective (congrArg Prod.fst h)
  have h2 : d = d' := congrArg (fun x : GSem nD τ sig × ℕ × Fin 3 => x.2.2) h
  subst h1 h2; rfl
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The tokens of a device's own cells. -/
def toks (c : Dev nD) : sProp 𝕄 :=
  iprop((dutyTok ER (barCell c) 0 0 ∗ dutyTok ER (barCell c) 0 1 ∗ dutyTok ER (barCell c) 0 2)
    ∗ bigSepL order (fun i => (dutyTok ER (sendCell c i) 0 0 : sProp 𝕄)) ∗ bigSepL order (fun i => (dutyTok ER (recvCell c i) 0 0 : sProp 𝕄)))

def G (c : Dev nD) : sProp 𝕄 :=
  iprop((bigSep Finset.univ fun k : Fin 57 => roundState ER (sched m ρ) (kcell (c, k)) 0)
    ∗ (bigSep Finset.univ fun k : Fin 57 => iprop(atPos ER (kcell (c, k)) 0 ∅ 0 ∗ reached ER (kcell (c, k)) 0)) ∗ toks c)

theorem three (Φ : Fin 3 → sProp 𝕄) : bigSep Finset.univ Φ = iprop(Φ 0 ∗ Φ 1 ∗ Φ 2) := bigSep_univ_eq_bigSepL [0, 1, 2] (by decide) (by decide) Φ

/-- The tokens minted at a device's cells hold those it uses. -/
theorem toks_of (c : Dev nD) : (bigSep Finset.univ fun k : Fin 57 => bigSep Finset.univ fun d : Fin 3 => (dutyTok ER (kcell (c, k)) 0 d : sProp 𝕄)) ⊢ toks c := by
  rw [cells_split]
  simp only [kcell_send, kcell_recv, kcell_bar]
  unfold toks
  rw [three]
  rw [TalkSites.bigSepL_perm (l := order) (l' := sorder) (by decide) (by decide), TalkSites.bigSepL_perm (l := order) (l' := rorder) (by decide) (by decide)]
  iintro ⟨HB, HS, HR⟩
  isplitl [HB]; · iexact HB
  isplitl [HS]
  · iapply (bigSepL_mono (l := sorder) fun i _ => bigSep_elim (Finset.mem_univ (0 : Fin 3))); iexact HS
  · iapply (bigSepL_mono (l := rorder) fun i _ => bigSep_elim (Finset.mem_univ (0 : Fin 3))); iexact HR

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 57 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod, bigSep_univ_prod]
    exact bigSep_mono fun c _ => toks_of c
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- A device's cells allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 57 => semVal (kcell (c, k)) 0) ∗ bigSep Finset.univ fun k : Fin 57 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens handed round -/

/-- A step as a permutation of the devices. -/
def xrE (k : Fin 8) : Dev nD ≃ Dev nD := ⟨xr k, xr k, xr_xr k, xr_xr k⟩

theorem step_round (k : Fin 8) (Φ : Dev nD → sProp 𝕄) : bigSep Finset.univ Φ = bigSep Finset.univ fun c : Dev nD => Φ (xr k c) :=
  bigSep_univ_equiv (xrE k) Φ

theorem list_out {I : Type} (l : List I) (Φ : Dev nD → I → sProp 𝕄) :
    (bigSep Finset.univ fun c : Dev nD => bigSepL l (Φ c)) = bigSepL l fun i => bigSep Finset.univ fun c : Dev nD => Φ c i := by
  induction l with
  | nil => exact BI.bigSep_emp_const _
  | cons i l ih => simp only [bigSepL_cons', bigSep_sep']; rw [ih]

theorem toks_around : (bigSep Finset.univ fun c : Dev nD => (toks c : sProp 𝕄)) ⊢ bigSep Finset.univ fun c : Dev nD => payToks c := by
  have hp (c : Dev nD) : (bigSepL order (perm c) : sProp 𝕄)
      = iprop(bigSepL order (fun i => (dutyTok ER (sendCell c i) 0 0 : sProp 𝕄)) ∗ bigSepL order (fun i => (dutyTok ER (recvCell (xr (mask i) c) i) 0 0 : sProp 𝕄))) :=
    (bigSepL_both order _ _).symm
  have hr : (bigSep Finset.univ fun c : Dev nD => bigSepL order (fun i => (dutyTok ER (recvCell c i) 0 0 : sProp 𝕄)))
      = bigSep Finset.univ fun c : Dev nD => bigSepL order (fun i => (dutyTok ER (recvCell (xr (mask i) c) i) 0 0 : sProp 𝕄)) := by
    rw [list_out, list_out]
    exact congrArg (bigSepL order) (funext fun i => step_round (mask i) fun c => dutyTok ER (recvCell c i) 0 0)
  unfold toks payToks
  simp only [hp, bigSep_sep']
  rw [hr, step_round 1 (fun c : Dev nD => (dutyTok ER (barCell c) 0 0 : sProp 𝕄)), step_round 3 (fun c : Dev nD => (dutyTok ER (barCell c) 0 1 : sProp 𝕄)),
    step_round 4 (fun c : Dev nD => (dutyTok ER (barCell c) 0 2 : sProp 𝕄))]

theorem persistent_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_intro (K : Dev nD × Fin 57 → ℕ) (c : Dev nD) :
    iprop(records m ρ K ∗ (bigSep Finset.univ fun k : Fin 57 => (atPos ER (kcell (c, k)) 0 ∅ 0 : sProp 𝕄)) ∗ payToks c) ⊢ share0 m ρ c := by
  rw [cells_split]
  simp only [kcell_send, kcell_recv, kcell_bar]
  unfold share0
  iintro ⟨#HI, Hat, Htok⟩
  iexists K
  isplitr; · iexact HI
  isplitl [Hat] <;> iassumption

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (share0 m ρ) := by
  rw [bigSep_sep', bigSep_sep', ← bigSep_univ_prod (fun p : Dev nD × Fin 57 => iprop(∃ κ : ℕ, cellInv ER (sched m ρ) κ (kcell p))),
    bigSep_congr (s := Finset.univ) (fun (c : Dev nD) _ => bigSep_sep' Finset.univ (fun k : Fin 57 => (atPos ER (kcell (c, k)) 0 ∅ 0 : sProp 𝕄)) (fun k => reached ER (kcell (c, k)) 0)),
    bigSep_sep', ← bigSep_univ_prod (fun p : Dev nD × Fin 57 => (reached ER (kcell p) 0 : sProp 𝕄))]
  iintro ⟨HI, ⟨Hat, HR⟩, Htok⟩
  ihave HK := (BI.bigSep_exists_pi Finset.univ (fun (p : Dev nD × Fin 57) (κ : ℕ) => (cellInv ER (sched m ρ) κ (kcell p) : sProp 𝕄))) $$ HI
  icases HK with ⟨%K, HI⟩
  ihave Htk := (toks_around (F := F)) $$ Htok
  iapply (persistent_each (R := records m ρ K) fun c _ => share_intro m ρ K c)
  isplitl [HI HR]
  · unfold records; rw [bigSep_sep']
    isplitl [HI] <;> iassumption
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (share0 m ρ) :=
  ((bigSep_mono fun c _ => core_alloc m ρ c).trans (bigSep_fupd _ _)).trans (BI.fupd_mono (regroup m ρ))

/-! ## The launch credit -/

theorem cred_one (sm : SemLoc sig) (k : Fin 8) (n : ℕ) (c : Dev nD) :
    (Pipeline.launchCred (fun d => tallyAt ((xr k d : Thread nD τ), sm) () n) c : sProp 𝕄) ⊢ cred (tallyAt ((c : Thread nD τ), sm) () n) :=
  Pipeline.launchCred_tallyAt sm (xr k) (xr k) (xr_xr k) (xr_xr k) () n c

theorem cred_owed (c : Dev nD) (l : List (Fin 28)) :
    (Pipeline.launchCred (fun d => owed d l) c : sProp 𝕄) ⊢ bigSepL l fun i => cred (tallyAt (recvCell c i) () (N i)) := by
  induction l with
  | nil => exact Entails.of_eq (Pipeline.launchCred_zero c)
  | cons i l ih =>
    show (Pipeline.launchCred (fun d => owed d l + tallyAt (recvCell (xr (mask i) d) i) () (N i)) c : sProp 𝕄) ⊢ _
    rw [Pipeline.launchCred_add, bigSepL_cons']
    iintro ⟨H1, H2⟩
    isplitl [H2]
    · iapply (cred_one (F := F) (.dma (rsem i)) (mask i) (N i) c); iexact H2
    · iapply ih; iexact H1

theorem three_units (c : Dev nD) : iprop((cred (tallyAt (barCell c) () 1) : sProp 𝕄) ∗ cred (tallyAt (barCell c) () 1) ∗ cred (tallyAt (barCell c) () 1))
    ⊢ cred (tallyAt (barCell c) () 3) := by
  refine (sep_mono_right (cred_add _ _).2).trans ((cred_add _ _).2.trans (Entails.of_eq ?_))
  rw [tallyAt_add, tallyAt_add]

theorem creds (c : Dev nD) :
    (Pipeline.launchCred O₀ c : sProp 𝕄) ⊢ iprop(cred (tallyAt (barCell c) () 3) ∗ bigSepL rorder (fun i => (cred (tallyAt (recvCell c i) () (N i)) : sProp 𝕄))) := by
  show (Pipeline.launchCred (fun d => ((owed d order + tallyAt (barCell (xr 4 d)) () 1) + tallyAt (barCell (xr 3 d)) () 1) + tallyAt (barCell (xr 1 d)) () 1) c : sProp 𝕄) ⊢ _
  rw [Pipeline.launchCred_add, Pipeline.launchCred_add, Pipeline.launchCred_add]
  rw [TalkSites.bigSepL_perm (l := rorder) (l' := order) (by decide) (by decide)]
  iintro ⟨⟨⟨Ho, H4⟩, H3⟩, H1⟩
  isplitl [H4 H3 H1]
  · iapply (three_units (F := F) c)
    isplitl [H4]; · iapply (cred_one (F := F) (.reg barS) 4 1 c); iexact H4
    isplitl [H3]; · iapply (cred_one (F := F) (.reg barS) 3 1 c); iexact H3
    iapply (cred_one (F := F) (.reg barS) 1 1 c); iexact H1
  · iapply (cred_owed (F := F) c order); iexact Ho

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ share0 m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_split, unscopedSems0_eq]
  unfold Φ₁ zeros scr
  rw [TalkSites.bigSepL_perm (l := rdone) (l' := rorder) (by decide) (by decide), TalkSites.bigSepL_perm (l := sdone) (l' := sorder) (by decide) (by decide)]
  iintro ⟨Hr, HzB, HzR, HzS⟩
  isplitl [HzB]; · iexact HzB
  isplitl [HzS HzR]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters every weakly fair execution ends, with every window's array at its final contents
    and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := share0 m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m ρ c (0 : Fin 3) = (s₀ m ρ).mem (win0_0.arr.view.loc (c : Thread nD τ)) :=
  (dats (F := F) m ρ 0 c).arrAt_in (0 : Fin 3) rfl _
theorem final_w (c : Dev nD) : finalA m ρ c (1 : Fin 3) = (s₀ m ρ).mem (win0_1.arr.view.loc (c : Thread nD τ)) :=
  (dats (F := F) m ρ 0 c).arrAt_in (1 : Fin 3) rfl _

end Cert.KernelIdeal.Xor

end
-- ==== Proof.KiValue.lean ====
/-
The value: over the extended reals every device's result is its block of columns of the whole product.

A finished product is three partial sums over row pieces, added in an order that depends on the slot; addition of extended
reals is commutative and associative, so all orders give the one sum over the 4096 contracted positions. The result's row
block `b` on device `c` is then the row block `b` of `x` times the column block `c` of `w`.
-/
module

public import proofs.«01_k».proof.Proof.KiLaunch
public import proofs.«01_k».proof.Proof.Gen.ReferenceIdeal
public import Idealize.ShloMosaic.Lib.MatmulPlain
public import Idealize.ShloMosaic.Lib.StackMember
public import Idealize.ShloMosaic.Lib.Layout
public import Idealize.ShloMosaic.Lib.Pipeline.Value
public import Idealize.ShloMosaic.PureOps.Ideal.Laws

@[expose] public section

noncomputable section

namespace Cert.KernelIdeal.Xor

open Cert.KernelIdeal Cert.KernelIdeal.Gen
open Idealize.ShloMosaic
open Idealize.ShloMosaic.TcCoe
open Idealize.ShloMosaic.ValueIdx
open scoped BigOperators

/-! ## The windows' arrays -/

section Windows

variable {F : FTy → Type} [FloatOps F]
variable (m : (ℓ : Loc nD τ sig) → Buf (Elt F) ℓ) (ρ : Dev nD → PrngReg)

theorem xs_eq (c : Dev nD) : xs m ρ c = m ((c : Thread nD τ).loc main_arg0) :=
  Memref.read_access_unit_zero (Elt F) main_arg0 (funext fun a => by fin_cases a <;> decide) (fun a => by fin_cases a <;> decide) _

theorem ws_eq (c : Dev nD) : ws m ρ c = m ((c : Thread nD τ).loc main_arg1) :=
  Memref.read_access_unit_zero (Elt F) main_arg1 (funext fun a => by fin_cases a <;> decide) (fun a => by fin_cases a <;> decide) _

/-- The result array's final contents. -/
theorem final_out (c : Dev nD) : finalA m ρ c (2 : Fin 3) = OUT m ρ c := by
  have h : (win0_2.blk (0 : Fin 1)).view.read (Elt F) (finalA m ρ c (2 : Fin 3)) = OUT m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  have hr : (win0_2.blk (0 : Fin 1)).view.read (Elt F) (finalA m ρ c (2 : Fin 3)) = finalA m ρ c (2 : Fin 3) :=
    Memref.read_access_unit_zero (Elt F) main_v1 (funext fun a => by fin_cases a <;> decide) (fun a => by fin_cases a <;> decide) _
  exact hr.symm.trans h

end Windows

/-! ## The payloads, element by element -/

theorem pay5_apply (a : Vec Ideal S1x512x256 .f32) (x : Vec Ideal S512x1368 .f32) (w : Vec Ideal S1x1368x256 .f32) (p : Fin 512) (q : Fin 256) :
    k0_pay5 (F := Ideal) a x w (ix3 (0 : Fin 1) p q)
      = (a (ix3 (0 : Fin 1) p q) + ∑ k : Fin 1368, (x (ix2 p k) : EReal) * w (ix3 (0 : Fin 1) k q) : EReal) := by
  unfold k0_pay5
  refine (shapeCast_ab_1ab_apply _ _ (0 : Fin 1) p q).trans ?_
  refine congrArg₂ (fun a b : EReal => a + b) (shapeCast_1ab_ab_apply a _ p q) ?_
  refine (Ideal.matmul_plain_apply (M := 512) (K := 1368) (N := 256) none _ _ _ p q).trans ?_
  refine (congrArg₂ (fun a b : EReal => a + b) Ideal.ofBits_zero_f32 (Finset.sum_congr rfl fun k _ => ?_)).trans (zero_add _)
  exact congrArg₂ (fun a b : EReal => a * b) (congrFun (shapeCast_self x _) _) (shapeCast_1ab_ab_apply w _ k q)

theorem pay6_apply (a : Vec Ideal S1x512x256 .f32) (x : Vec Ideal S512x1360 .f32) (w : Vec Ideal S1x1360x256 .f32) (p : Fin 512) (q : Fin 256) :
    k0_pay6 (F := Ideal) a x w (ix3 (0 : Fin 1) p q)
      = (a (ix3 (0 : Fin 1) p q) + ∑ k : Fin 1360, (x (ix2 p k) : EReal) * w (ix3 (0 : Fin 1) k q) : EReal) := by
  unfold k0_pay6
  refine (shapeCast_ab_1ab_apply _ _ (0 : Fin 1) p q).trans ?_
  refine congrArg₂ (fun a b : EReal => a + b) (shapeCast_1ab_ab_apply a _ p q) ?_
  refine (Ideal.matmul_plain_apply (M := 512) (K := 1360) (N := 256) none _ _ _ p q).trans ?_
  refine (congrArg₂ (fun a b : EReal => a + b) Ideal.ofBits_zero_f32 (Finset.sum_congr rfl fun k _ => ?_)).trans (zero_add _)
  exact congrArg₂ (fun a b : EReal => a * b) (congrFun (shapeCast_self x _) _) (shapeCast_1ab_ab_apply w _ k q)

theorem pay2_apply (x : Vec Ideal S512x4096 .f32) (w : Vec Ideal S4096x256 .f32) (p : Fin 512) (q : Fin 256) :
    k0_pay2 (F := Ideal) x w (ix2 p q) = (∑ k : Fin 4096, (x (ix2 p k) : EReal) * w (ix2 k q) : EReal) := by
  unfold k0_pay2
  refine (Ideal.matmul_plain_apply (M := 512) (K := 4096) (N := 256) none _ _ _ p q).trans ?_
  refine (congrArg₂ (fun a b : EReal => a + b) Ideal.ofBits_zero_f32 (Finset.sum_congr rfl fun k _ => ?_)).trans (zero_add _)
  exact congrArg₂ (fun a b : EReal => a * b) (congrFun (shapeCast_self x _) _) (congrFun (shapeCast_self w _) _)

/-! ## A finished product -/

variable (m : (ℓ : Loc nD τ sig) → Buf (Elt Ideal) ℓ) (ρ : Dev nD → PrngReg)

theorem off_add_lt : ∀ r : Fin 3, off r + len r ≤ 4096 := by decide

/-- One product of the contracted sum: device `c`'s `x` against device `d`'s `w`. -/
def term (c d : Dev nD) (p : Fin 512) (q : Fin 256) (k : Fin 4096) : EReal :=
  (show EReal from xs m ρ c (ix2 p k)) * (show EReal from ws m ρ d (ix2 k q))

/-- The sum over one row piece. -/
def part (f : Fin 4096 → EReal) (r : Fin 3) : EReal :=
  ∑ k : Fin (len r), f ⟨off r + k.val, lt_of_lt_of_le (Nat.add_lt_add_left k.isLt _) (off_add_lt r)⟩

/-- The three pieces make the whole sum. -/
theorem part_sum (f : Fin 4096 → EReal) : part f 0 + part f 1 + part f 2 = ∑ k, f k := by
  have h1 : (∑ k : Fin 4096, f k) = (∑ k : Fin 2736, f ⟨k.val, by omega⟩) + ∑ k : Fin 1360, f ⟨2736 + k.val, by omega⟩ :=
    Fin.sum_univ_add (a := 2736) (b := 1360) f
  have h2 : (∑ k : Fin 2736, f ⟨k.val, by omega⟩) = (∑ k : Fin 1368, f ⟨k.val, by omega⟩) + ∑ k : Fin 1368, f ⟨1368 + k.val, by omega⟩ :=
    Fin.sum_univ_add (a := 1368) (b := 1368) fun k => f ⟨k.val, by omega⟩
  rw [h1, h2]
  refine congrArg₂ (fun a b : EReal => a + b) (congrArg₂ (fun a b : EReal => a + b) ?_ rfl) rfl
  exact Finset.sum_congr rfl fun k _ => congrArg f (Fin.ext (Nat.zero_add _))

theorem xP_apply (c : Dev nD) (r : Fin 3) (p : Fin 512) (k : Fin (len r)) :
    xP m ρ c r (ix2 p k) = xs m ρ c (ix2 p ⟨off r + k.val, lt_of_lt_of_le (Nat.add_lt_add_left k.isLt _) (off_add_lt r)⟩) := by
  refine congrArg (xs m ρ c) (idx2x (n0 := 512) (n1 := 4096) ?_ ?_)
  · show 0 + 1 * p.val = p.val; omega
  · show off r + 1 * k.val = off r + k.val; omega

theorem gP_apply (c : Dev nD) (j : Fin 7) (r : Fin 3) (k : Fin (len r)) (q : Fin 256) :
    gP m ρ c j r (ix3 (0 : Fin 1) k q)
      = ws m ρ (xr j.succ c) (ix2 ⟨off r + k.val, lt_of_lt_of_le (Nat.add_lt_add_left k.isLt _) (off_add_lt r)⟩ q) := by
  have h : gP m ρ c j r (ix3 (0 : Fin 1) k q)
      = WG m ρ c (ix3 j ⟨off r + k.val, lt_of_lt_of_le (Nat.add_lt_add_left k.isLt _) (off_add_lt r)⟩ q) := by
    refine congrArg (WG m ρ c) (idx3x (n0 := 7) (n1 := 4096) (n2 := 256) ?_ ?_ ?_)
    · show j.val + 1 * 0 = j.val; omega
    · show off r + 1 * k.val = off r + k.val; omega
    · show 0 + 1 * q.val = q.val; omega
  exact h

theorem acc_apply (c : Dev nD) (j : Fin 7) (r : Fin 3) (a : Vec Ideal S1x512x256 .f32) (p : Fin 512) (q : Fin 256) :
    acc m ρ c j r a (ix3 (0 : Fin 1) p q) = ((a (ix3 (0 : Fin 1) p q) : EReal) + part (term m ρ c (xr j.succ c) p q) r : EReal) := by
  have hs : ∀ r : Fin 3, (∑ k : Fin (len r), (xP m ρ c r (ix2 p k) : EReal) * (gP m ρ c j r (ix3 (0 : Fin 1) k q) : EReal))
      = part (term m ρ c (xr j.succ c) p q) r := fun r =>
    Finset.sum_congr rfl fun k _ => congrArg₂ (fun a b : EReal => a * b) (xP_apply m ρ c r p k) (gP_apply m ρ c j r k q)
  match r with
  | 0 => exact (pay5_apply a (xP m ρ c 0) (gP m ρ c j 0) p q).trans (congrArg (fun b : EReal => (a (ix3 (0 : Fin 1) p q) : EReal) + b) (hs 0))
  | 1 => exact (pay5_apply a (xP m ρ c 1) (gP m ρ c j 1) p q).trans (congrArg (fun b : EReal => (a (ix3 (0 : Fin 1) p q) : EReal) + b) (hs 1))
  | 2 => exact (pay6_apply a (xP m ρ c 2) (gP m ρ c j 2) p q).trans (congrArg (fun b : EReal => (a (ix3 (0 : Fin 1) p q) : EReal) + b) (hs 2))

theorem Z_apply (j : Fin 7) (x : S1x512x256.Idx) : Z (F := Ideal) j x = (0 : EReal) := by
  have h : k0_pay1 (F := Ideal) = fun _ => (Ideal.ofBits .f32 0x00000000#32 : EReal) := by
    unfold k0_pay1
    exact shapeCast_self _ _
  unfold Z
  rw [h]
  exact Ideal.ofBits_zero_f32

/-- Three pieces added to a slot of zeros, in any order that names each once. -/
theorem pieces3 (c : Dev nD) (j : Fin 7) (r₁ r₂ r₃ : Fin 3) (h : ∀ g : Fin 3 → EReal, g r₁ + g r₂ + g r₃ = g 0 + g 1 + g 2) (p : Fin 512) (q : Fin 256) :
    acc m ρ c j r₃ (acc m ρ c j r₂ (acc m ρ c j r₁ (Z j))) (ix3 (0 : Fin 1) p q) = (∑ k, term m ρ c (xr j.succ c) p q k : EReal) := by
  rw [acc_apply, acc_apply, acc_apply, Z_apply]
  refine Eq.trans ?_ ((h _).trans (part_sum _))
  rw [zero_add]

/-- Every slot's finished product is the whole sum. -/
theorem Xd_apply (c : Dev nD) (j : Fin 7) (p : Fin 512) (q : Fin 256) :
    Xd m ρ c j (ix3 (0 : Fin 1) p q) = (∑ k, term m ρ c (xr j.succ c) p q k : EReal) := by
  have e : ∀ a b c : EReal, a + c + b = a + b + c := fun a b c => add_right_comm a c b
  fin_cases j
  · exact pieces3 m ρ c 0 0 2 1 (fun g => e _ _ _) p q
  · exact pieces3 m ρ c 1 0 1 2 (fun g => rfl) p q
  · exact pieces3 m ρ c 2 1 0 2 (fun g => by rw [add_comm (g 1)]) p q
  · exact pieces3 m ρ c 3 2 1 0 (fun g => by rw [add_comm (g 2 + g 1), add_comm (g 2), add_assoc]) p q
  · exact pieces3 m ρ c 4 2 0 1 (fun g => by rw [add_comm (g 2), e]) p q
  · exact pieces3 m ρ c 5 0 1 2 (fun g => rfl) p q
  · exact pieces3 m ρ c 6 1 2 0 (fun g => by rw [add_comm (g 1 + g 2), add_assoc]) p q

/-- The block stored at the row block of the device `δ` steps away. -/
theorem blkVal_apply (c : Dev nD) (δ : Fin 8) (p : Fin 512) (q : Fin 256) :
    blkVal m ρ c δ (ix2 p q) = (∑ k, term m ρ (xr δ c) c p q k : EReal) := by
  refine Fin.cases ?_ (fun j => ?_) δ
  · have h0 : xr 0 c = c := Fin.ext (Nat.xor_zero _)
    rw [h0]
    exact pay2_apply (xs m ρ c) (ws m ρ c) p q
  · refine (shapeCast_1ab_ab_apply (Xd m ρ (xr j.succ c) j) _ p q).trans ?_
    rw [Xd_apply, xr_xr]

theorem xr_back : ∀ b c : Fin 8, xr (xr b c) c = b := by decide

theorem OUT_apply (c : Dev nD) (i : Fin 4096) (q : Fin 256) :
    OUT m ρ c (ix2 i q) = (∑ k, term m ρ ⟨i.val / 512, by have := i.isLt; show _ < 8; omega⟩ c ⟨i.val % 512, Nat.mod_lt _ (by decide)⟩ q k : EReal) := by
  unfold OUT
  refine (blkVal_apply m ρ c _ _ _).trans ?_
  rw [xr_back]

/-! ## The reference's block -/

/-- The whole product. -/
abbrev prod (X : FVec Ideal ⟨2, ![4096, 4096]⟩ .f32) (W : FVec Ideal ⟨2, ![4096, 2048]⟩ .f32) : FVec Ideal ⟨2, ![4096, 2048]⟩ .f32 :=
  Host.dotGeneral Cert.ReferenceIdeal.dot_S4096x4096_S4096x2048_S4096x2048_1_0_0_1_n_n none X W

theorem prod_apply (X : FVec Ideal ⟨2, ![4096, 4096]⟩ .f32) (W : FVec Ideal ⟨2, ![4096, 2048]⟩ .f32) (a : Fin 4096) (b : Fin 2048) :
    prod X W (ix2 a b) = (∑ k : Fin 4096, (X (ix2 a k) : EReal) * W (ix2 k b) : EReal) :=
  StackMember.dotGeneral_plain_apply (m := 4096) (k := 4096) (n := 2048) none X W a b

/-- Where `x` is cut by rows and `w` by columns, device `c`'s result is block `c` of the product's columns. -/
theorem OUT_block (X : FVec Ideal ⟨2, ![4096, 4096]⟩ .f32) (W : FVec Ideal ⟨2, ![4096, 2048]⟩ .f32)
    (hx : ∀ c : Dev nD, xs m ρ c = Layout.block ⟨2, ![512, 4096]⟩ ⟨2, ![4096, 4096]⟩ 0 8 c X)
    (hw : ∀ c : Dev nD, ws m ρ c = Layout.block ⟨2, ![4096, 256]⟩ ⟨2, ![4096, 2048]⟩ 1 8 c W) (c : Dev nD) :
    OUT m ρ c = Layout.block ⟨2, ![4096, 256]⟩ ⟨2, ![4096, 2048]⟩ 1 8 c (prod X W) := by
  funext x
  obtain ⟨i, q, rfl⟩ : ∃ (i : Fin 4096) (q : Fin 256), x = ix2 i q := ⟨x 0, x 1, eq_ix2 x⟩
  have hb : c.val * 256 + q.val < 2048 := by have h8 : c.val < 8 := c.isLt; have := q.isLt; omega
  have hs : (∑ k, term m ρ ⟨i.val / 512, by have := i.isLt; show _ < 8; omega⟩ c ⟨i.val % 512, Nat.mod_lt _ (by decide)⟩ q k : EReal)
      = ∑ k : Fin 4096, (X (ix2 i k) : EReal) * W (ix2 k ⟨c.val * 256 + q.val, hb⟩) := by
    refine Finset.sum_congr rfl fun k _ => ?_
    unfold term
    rw [hx, hw]
    refine congrArg₂ (fun a b : EReal => a * b) (congrArg X ?_) (congrArg W ?_)
    · refine idx2x (n0 := 4096) (n1 := 4096) ?_ rfl
      show i.val / 512 * 512 + i.val % 512 = i.val
      omega
    · exact idx2x (n0 := 4096) (n1 := 2048) rfl rfl
  refine (OUT_apply m ρ c i q).trans (hs.trans ((prod_apply X W i ⟨c.val * 256 + q.val, hb⟩).symm.trans ?_))
  exact congrArg (prod X W) (idx2x (n0 := 4096) (n1 := 2048) rfl rfl)

end Cert.KernelIdeal.Xor

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KLaunch
public import proofs.«01_k».proof.Proof.KiValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as it stands, at the bit patterns: it runs, keeps its arguments and leaves every counter at zero. -/
theorem frame_kernel : Cert.quiescent_Kernel (hKernel := Cert.Kernel.Gen.facts) := fun m ρ _ =>
  (θ_run Cert.Kernel.defs _ _).mono
    (fun _ h => ⟨fun c => ⟨(h.1 c (0 : Fin 3)).trans (Cert.Kernel.Xor.final_x m ρ c), (h.1 c (1 : Fin 3)).trans (Cert.Kernel.Xor.final_w m ρ c)⟩, h.2⟩)
    (Cert.Kernel.Xor.run_main (F := Bits) m ρ)

/-- The same over the extended reals. -/
theorem frame_ideal : Cert.quiescent_KernelIdeal (hKernelIdeal := Cert.KernelIdeal.Gen.facts) := fun m ρ _ =>
  (θ_run Cert.KernelIdeal.defs _ _).mono
    (fun _ h => ⟨fun c => ⟨(h.1 c (0 : Fin 3)).trans (Cert.KernelIdeal.Xor.final_x m ρ c), (h.1 c (1 : Fin 3)).trans (Cert.KernelIdeal.Xor.final_w m ρ c)⟩, h.2⟩)
    (Cert.KernelIdeal.Xor.run_main (F := Ideal) m ρ)

theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Every device's result is its block of columns of the reference's product. -/
theorem value : Cert.algebraic_KernelIdeal_ReferenceIdeal (hKernelIdeal := Cert.KernelIdeal.Gen.facts) (hReferenceIdeal := Cert.ReferenceIdeal.Gen.facts) :=
  fun m ρ m' ρ' _ hin => by
    refine ⟨Cert.KernelIdeal.Xor.prod (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
    · refine (θ_run Cert.KernelIdeal.defs _ _).mono (fun _ h c => ⟨?_, (h.1 c (0 : Fin 3)).trans (Cert.KernelIdeal.Xor.final_x m ρ c), (h.1 c (1 : Fin 3)).trans (Cert.KernelIdeal.Xor.final_w m ρ c)⟩)
        (Cert.KernelIdeal.Xor.run_main (F := Ideal) m ρ)
      exact (h.1 c (2 : Fin 3)).trans ((Cert.KernelIdeal.Xor.final_out m ρ c).trans (Cert.KernelIdeal.Xor.OUT_block m ρ _ _
        (fun d => (Cert.KernelIdeal.Xor.xs_eq m ρ d).trans (hin d).1) (fun d => (Cert.KernelIdeal.Xor.ws_eq m ρ d).trans (hin d).2) c))
    · exact (θ_run Cert.ReferenceIdeal.defs _ _).mono (fun _ h => h (0 : Dev Cert.ReferenceIdeal.nD)) (Cert.ReferenceIdeal.Value.run (F := Ideal) m' ρ')

theorem claim : Cert.Claim :=
  ⟨Cert.Kernel.Gen.facts, Cert.KernelIdeal.Gen.facts, Cert.ReferenceIdeal.Gen.facts, frame_kernel, frame_ideal, frame_reference, trivial, value⟩

end Cert.Proof

end
